-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v33)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v33) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v34)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v34) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v27_0)) (v1 : (c : Dev Cert.Kernel6Ideal.nD) → Buf (Elt Ideal) ((c.tc : Thread Cert.Kernel6Ideal.nD Cert.Kernel6Ideal.τ).loc Cert.Kernel6Ideal.main_v27_1)) (v2 : (c : Dev Cert.Kernel6Ideal.nD) → Buf (Elt Ideal) ((c.tc : Thread Cert.Kernel6Ideal.nD Cert.Kernel6Ideal.τ).loc Cert.Kernel6Ideal.main_v27_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v27_0) = v0 c
          ∧ r.2.mem ((c.tc : Thread Cert.Kernel6Ideal.nD Cert.Kernel6Ideal.τ).loc Cert.Kernel6Ideal.main_v27_1) = v1 c
          ∧ r.2.mem ((c.tc : Thread Cert.Kernel6Ideal.nD Cert.Kernel6Ideal.τ).loc Cert.Kernel6Ideal.main_v27_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_v58) = v1 c
          ∧ r.2.mem ((c.tc : Thread Cert.Reference6Ideal.nD Cert.Reference6Ideal.τ).loc Cert.Reference6Ideal.main_v48) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v47) = v0 c
          ∧ r.2.mem ((c.tc : Thread Cert.Reference7Ideal.nD Cert.Reference7Ideal.τ).loc Cert.Reference7Ideal.main_v48) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
-- ==== Pre_finite.lean ====
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S4096 : Shape := ⟨1, ![4096]⟩
abbrev S_ : Shape := ⟨0, ![]⟩

class Facts : Prop where
  bcast_S_S64x4096 : S_.BroadcastsInDim S64x4096 (![] : Fin 0 → Fin S64x4096.rank)

variable [Facts]

def fn {F : FTy → Type} [FloatOps F] (main_arg0 : FVec F S33x64 .f32) (main_arg1 : FVec F S64 .f32) (main_arg2 : FVec F S64 .f32) (main_arg3 : FVec F S64x64 .f32) (main_arg4 : FVec F S64 .f32) (main_arg5 : FVec F S64 .f32) (main_arg6 : FVec F S64x4096 .f32) (main_arg7 : FVec F S4096 .f32) : IVec S64x4096 1 :=
  let main_v0 : FVec F S64x4096 .f32 := Host.absf main_arg6
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  main_v2
-- ==== Kernel.lean ====
abbrev S8x2048x3584 : Shape := ⟨3, ![8, 2048, 3584]⟩
abbrev S16 : Shape := ⟨1, ![16]⟩
abbrev S1024 : Shape := ⟨1, ![1024]⟩
abbrev S128 : Shape := ⟨1, ![128]⟩
abbrev S8 : Shape := ⟨1, ![8]⟩
abbrev S_ : Shape := ⟨0, ![]⟩
abbrev S128x1 : Shape := ⟨2, ![128, 1]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x2048x128 : Shape := ⟨3, ![1, 2048, 128]⟩
abbrev S2x2048x128 : Shape := ⟨3, ![2, 2048, 128]⟩
abbrev S384 : Shape := ⟨1, ![384]⟩
abbrev S384x1 : Shape := ⟨2, ![384, 1]⟩
abbrev S384x128 : Shape := ⟨2, ![384, 128]⟩
abbrev S1x384x1x128 : Shape := ⟨4, ![1, 384, 1, 128]⟩
abbrev S2x384x2x128 : Shape := ⟨4, ![2, 384, 2, 128]⟩
abbrev S768x256 : Shape := ⟨2, ![768, 256]⟩
abbrev S1x768x256 : Shape := ⟨3, ![1, 768, 256]⟩
abbrev S3x768x256 : Shape := ⟨3, ![3, 768, 256]⟩
abbrev S1x1024 : Shape := ⟨2, ![1, 1024]⟩
abbrev S8x2048x1024 : Shape := ⟨3, ![8, 2048, 1024]⟩
abbrev S1x512x1024 : Shape := ⟨3, ![1, 512, 1024]⟩
abbrev S1x128x256 : Shape := ⟨3, ![1, 128, 256]⟩
abbrev S1x512x256 : Shape := ⟨3, ![1, 512, 256]⟩
abbrev S2x128x128 : Shape := ⟨3, ![2, 128, 128]⟩
abbrev S2x512x128 : Shape := ⟨3, ![2, 512, 128]⟩
abbrev S512x1024 : Shape := ⟨2, ![512, 1024]⟩
abbrev S2x768x128 : Shape := ⟨3, ![2, 768, 128]⟩
abbrev S128x256 : Shape := ⟨2, ![128, 256]⟩
abbrev S512x256 : Shape := ⟨2, ![512, 256]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S768x128 : Shape := ⟨2, ![768, 128]⟩
abbrev S1x768x128 : Shape := ⟨3, ![1, 768, 128]⟩
abbrev S256x128 : Shape := ⟨2, ![256, 128]⟩
abbrev S384x64 : Shape := ⟨2, ![384, 64]⟩
abbrev S1 : Shape := ⟨1, ![1]⟩
abbrev S128x64 : Shape := ⟨2, ![128, 64]⟩
abbrev S128x1024 : Shape := ⟨2, ![128, 1024]⟩
abbrev S1x128x1024 : Shape := ⟨3, ![1, 128, 1024]⟩

abbrev nBuf : Space → Nat
  | .hbm => 99
  | .vmem => 31
  | .smem => 1
  | _ => 0

abbrev bufTy : (tb : Table) → Fin (tcTables nBuf tb) → BufTy
  | .hbm, ⟨0, _⟩ => ⟨S8x2048x3584, .bf16⟩
  | .hbm, ⟨1, _⟩ => ⟨S16, .f32⟩
  | .hbm, ⟨2, _⟩ => ⟨S1024, .f32⟩
  | .hbm, ⟨3, _⟩ => ⟨S128, .i1⟩
  | .hbm, ⟨4, _⟩ => ⟨S128, .i32⟩
  | .hbm, ⟨5, _⟩ => ⟨S128, .i1⟩
  | .hbm, ⟨6, _⟩ => ⟨S128, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S128, .f32⟩
  | .hbm, ⟨27, _⟩ => ⟨S_, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S2048, .f32⟩
  | .hbm, ⟨32, _⟩ => ⟨S2048x1, .f32⟩
  | .hbm, ⟨33, _⟩ => ⟨S1x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S2048x128, .f32⟩
  | .hbm, ⟨39, _⟩ => ⟨S1x128, .f32⟩
  | .hbm, ⟨40, _⟩ => ⟨S2048x128, .f32⟩
  | .hbm, ⟨41, _⟩ => ⟨S2048x128, .f32⟩
  | .hbm, ⟨42, _⟩ => ⟨S1x2048x128, .f32⟩
  | .hbm, ⟨43, _⟩ => ⟨S1x2048x128, .f32⟩
  | .hbm, ⟨44, _⟩ => ⟨S2x2048x128, .f32⟩
  | .hbm, ⟨45, _⟩ => ⟨S384, .i32⟩
  | .hbm, ⟨46, _⟩ => ⟨S384x1, .i32⟩
  | .hbm, ⟨47, _⟩ => ⟨S128, .i32⟩
  | .hbm, ⟨48, _⟩ => ⟨S1x128, .i32⟩
  | .hbm, ⟨49, _⟩ => ⟨S384x128, .i32⟩
  | .hbm, ⟨50, _⟩ => ⟨S384x128, .i32⟩
  | .hbm, ⟨51, _⟩ => ⟨S384x128, .i1⟩
  | .hbm, ⟨52, _⟩ => ⟨S_, .i32⟩
  | .hbm, ⟨53, _⟩ => ⟨S1x128, .i32⟩
  | .hbm, ⟨54, _⟩ => ⟨S1x128, .i32⟩
  | .hbm, ⟨55, _⟩ => ⟨S384x128, .i32⟩
  | .hbm, ⟨56, _⟩ => ⟨S384x128, .i32⟩
  | .hbm, ⟨57, _⟩ => ⟨S384x128, .i1⟩
  | .hbm, ⟨58, _⟩ => ⟨S384x128, .i1⟩
  | .hbm, ⟨59, _⟩ => ⟨S_, .i32⟩
  | .hbm, ⟨60, _⟩ => ⟨S384x1, .i32⟩
  | .hbm, ⟨61, _⟩ => ⟨S384x1, .i1⟩
  | .hbm, ⟨62, _⟩ => ⟨S384x128, .i1⟩
  | .hbm, ⟨63, _⟩ => ⟨S384x128, .i1⟩
  | .hbm, ⟨64, _⟩ => ⟨S_, .i32⟩
  | .hbm, ⟨65, _⟩ => ⟨S384x1, .i32⟩
  | .hbm, ⟨66, _⟩ => ⟨S384x1, .i1⟩
  | .hbm, ⟨67, _⟩ => ⟨S384x128, .i1⟩
  | .hbm, ⟨68, _⟩ => ⟨S384x128, .i1⟩
  | .hbm, ⟨69, _⟩ => ⟨S_, .f32⟩
  | .hbm, ⟨70, _⟩ => ⟨S_, .f32⟩
  | .hbm, ⟨71, _⟩ => ⟨S384x128, .f32⟩
  | .hbm, ⟨72, _⟩ => ⟨S384x128, .f32⟩
  | .hbm, ⟨73, _⟩ => ⟨S384x128, .f32⟩
  | .hbm, ⟨74, _⟩ => ⟨S1x384x1x128, .f32⟩
  | .hbm, ⟨75, _⟩ => ⟨S2x384x2x128, .f32⟩
  | .hbm, ⟨76, _⟩ => ⟨S768x256, .f32⟩
  | .hbm, ⟨77, _⟩ => ⟨S_, .f32⟩
  | .hbm, ⟨78, _⟩ => ⟨S_, .f32⟩
  | .hbm, ⟨79, _⟩ => ⟨S384x128, .f32⟩
  | .hbm, ⟨80, _⟩ => ⟨S384x128, .f32⟩
  | .hbm, ⟨81, _⟩ => ⟨S384x128, .f32⟩
  | .hbm, ⟨82, _⟩ => ⟨S1x384x1x128, .f32⟩
  | .hbm, ⟨83, _⟩ => ⟨S2x384x2x128, .f32⟩
  | .hbm, ⟨84, _⟩ => ⟨S768x256, .f32⟩
  | .hbm, ⟨85, _⟩ => ⟨S_, .f32⟩
  | .hbm, ⟨86, _⟩ => ⟨S_, .f32⟩
  | .hbm, ⟨87, _⟩ => ⟨S384x128, .f32⟩
  | .hbm, ⟨88, _⟩ => ⟨S384x128, .f32⟩
  | .hbm, ⟨89, _⟩ => ⟨S384x128, .f32⟩
  | .hbm, ⟨90, _⟩ => ⟨S1x384x1x128, .f32⟩
  | .hbm, ⟨91, _⟩ => ⟨S2x384x2x128, .f32⟩
  | .hbm, ⟨92, _⟩ => ⟨S768x256, .f32⟩
  | .hbm, ⟨93, _⟩ => ⟨S1x768x256, .f32⟩
  | .hbm, ⟨94, _⟩ => ⟨S1x768x256, .f32⟩
  | .hbm, ⟨95, _⟩ => ⟨S1x768x256, .f32⟩
  | .hbm, ⟨96, _⟩ => ⟨S3x768x256, .f32⟩
  | .hbm, ⟨97, _⟩ => ⟨S1x1024, .f32⟩
  | .hbm, ⟨98, _⟩ => ⟨S8x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x128x256, .bf16⟩
  | .local _ .vmem, ⟨5, _⟩ => ⟨S1x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x256, .bf16⟩
  | .local _ .vmem, ⟨11, _⟩ => ⟨S1x128x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x128x256, .bf16⟩
  | .local _ .vmem, ⟨15, _⟩ => ⟨S1x128x256, .bf16⟩
  | .local _ .vmem, ⟨16, _⟩ => ⟨S2x128x128, .f32⟩
  | .local _ .vmem, ⟨17, _⟩ => ⟨S2x128x128, .f32⟩
  | .local _ .vmem, ⟨18, _⟩ => ⟨S2x512x128, .f32⟩
  | .local _ .vmem, ⟨19, _⟩ => ⟨S2x512x128, .f32⟩
  | .local _ .vmem, ⟨20, _⟩ => ⟨S2x128x128, .f32⟩
  | .local _ .vmem, ⟨21, _⟩ => ⟨S2x128x128, .f32⟩
  | .local _ .vmem, ⟨22, _⟩ => ⟨S1x768x256, .f32⟩
  | .local _ .vmem, ⟨23, _⟩ => ⟨S1x768x256, .f32⟩
  | .local _ .vmem, ⟨24, _⟩ => ⟨S1x768x256, .f32⟩
  | .local _ .vmem, ⟨25, _⟩ => ⟨S1x768x256, .f32⟩
  | .local _ .vmem, ⟨26, _⟩ => ⟨S1x768x256, .f32⟩
  | .local _ .vmem, ⟨27, _⟩ => ⟨S1x1024, .f32⟩
  | .local _ .vmem, ⟨28, _⟩ => ⟨S1x512x1024, .bf16⟩
  | .local _ .vmem, ⟨29, _⟩ => ⟨S1x512x1024, .bf16⟩
  | .local _ .vmem, ⟨30, _⟩ => ⟨S512x1024, .f32⟩
  | .local _ .smem, ⟨0, _⟩ => ⟨S16, .f32⟩
  | _, _ => ⟨S8x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_cst : Ref sig .tc := ⟨.hbm, 6, rfl⟩
abbrev main_v0 : Ref sig .tc := ⟨.hbm, 7, rfl⟩
abbrev main_cst_2 : Ref sig .tc := ⟨.hbm, 8, rfl⟩
abbrev main_v1 : Ref sig .tc := ⟨.hbm, 9, rfl⟩
abbrev main_v2 : Ref sig .tc := ⟨.hbm, 10, rfl⟩
abbrev main_cst_3 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_4 : Ref sig .tc := ⟨.hbm, 15, rfl⟩
abbrev main_v6 : Ref sig .tc := ⟨.hbm, 16, rfl⟩
abbrev main_v7 : Ref sig .tc := ⟨.hbm, 17, rfl⟩
abbrev main_cst_5 : Ref sig .tc := ⟨.hbm, 18, rfl⟩
abbrev main_v8 : Ref sig .tc := ⟨.hbm, 19, rfl⟩
abbrev main_v9 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_cst_12 : Ref sig .tc := ⟨.hbm, 70, rfl⟩
abbrev main_call1_v0 : Ref sig .tc := ⟨.hbm, 71, rfl⟩
abbrev main_call1_v1 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_cst_14 : Ref sig .tc := ⟨.hbm, 78, rfl⟩
abbrev main_call2_v0 : Ref sig .tc := ⟨.hbm, 79, rfl⟩
abbrev main_call2_v1 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_15 : Ref sig .tc := ⟨.hbm, 85, rfl⟩
abbrev main_cst_16 : Ref sig .tc := ⟨.hbm, 86, rfl⟩
abbrev main_call3_v0 : Ref sig .tc := ⟨.hbm, 87, rfl⟩
abbrev main_call3_v1 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let c0_i32_0 : BitVec 32 := 0#32
  ![arg0.toNat, v2.toNat, c12_i32.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c15_i32 : BitVec 32 := 15#32
  let v2 : BitVec 32 := Scalar.minsi v1 c15_i32
  let c12_i32 : BitVec 32 := 12#32
  let c0_i32 : BitVec 32 := 0#32
  ![arg0.toNat, v2.toNat, c12_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c13_i32 : BitVec 32 := 13#32
  let c0_i32_0 : BitVec 32 := 0#32
  ![arg0.toNat, v2.toNat, c13_i32.toNat]

def cc0_transform_7 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c15_i32 : BitVec 32 := 15#32
  let v2 : BitVec 32 := Scalar.minsi v1 c15_i32
  let c13_i32 : BitVec 32 := 13#32
  let c0_i32 : BitVec 32 := 0#32
  ![arg0.toNat, v2.toNat, c13_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c15_i32 : BitVec 32 := 15#32
  let v2 : BitVec 32 := Scalar.minsi v1 c15_i32
  let c0_i32 : BitVec 32 := 0#32
  let c0_i32_0 : BitVec 32 := 0#32
  let c0_i32_1 : BitVec 32 := 0#32
  ![c0_i32.toNat, v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg1 c3_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x768x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x768x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x768x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale" => some (((1 / 8) * (Real.log 2)⁻¹ : ℝ) : EReal)
  | _ => none
-- ==== ReferenceIdeal.lean ====
abbrev S8x2048x3584 : Shape := ⟨3, ![8, 2048, 3584]⟩
abbrev S16 : Shape := ⟨1, ![16]⟩
abbrev S1024 : Shape := ⟨1, ![1024]⟩
abbrev S8x2048x1024 : Shape := ⟨3, ![8, 2048, 1024]⟩
abbrev S8x2048x8x8x2x8 : Shape := ⟨6, ![8, 2048, 8, 8, 2, 8]⟩
abbrev S8x2048x8x1x2x8 : Shape := ⟨6, ![8, 2048, 8, 1, 2, 8]⟩
abbrev S8x2048x8x3x2x8 : Shape := ⟨6, ![8, 2048, 8, 3, 2, 8]⟩
abbrev S8x2048x8x2x8x8 : Shape := ⟨6, ![8, 2048, 8, 2, 8, 8]⟩
abbrev S8x2048x16x64 : Shape := ⟨4, ![8, 2048, 16, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S8x2048x16x8 : Shape := ⟨4, ![8, 2048, 16, 8]⟩
abbrev S8x2048x16x48 : Shape := ⟨4, ![8, 2048, 16, 48]⟩
abbrev S8x2048x256 : Shape := ⟨3, ![8, 2048, 256]⟩
abbrev S8x2048x2x8x2x8 : Shape := ⟨6, ![8, 2048, 2, 8, 2, 8]⟩
abbrev S8x2048x2x1x2x8 : Shape := ⟨6, ![8, 2048, 2, 1, 2, 8]⟩
abbrev S8x2048x2x3x2x8 : Shape := ⟨6, ![8, 2048, 2, 3, 2, 8]⟩
abbrev S8x2048x2x2x8x8 : Shape := ⟨6, ![8, 2048, 2, 2, 8, 8]⟩
abbrev S8x2048x4x64 : Shape := ⟨4, ![8, 2048, 4, 64]⟩
abbrev S8x2048x4x8 : Shape := ⟨4, ![8, 2048, 4, 8]⟩
abbrev S8x2048x4x48 : Shape := ⟨4, ![8, 2048, 4, 48]⟩
abbrev S8x16x128x4x4x64 : Shape := ⟨6, ![8, 16, 128, 4, 4, 64]⟩
abbrev S8x2304x4x64 : Shape := ⟨4, ![8, 2304, 4, 64]⟩
abbrev S8x16x128x4x64 : Shape := ⟨5, ![8, 16, 128, 4, 64]⟩
abbrev S8x16x384x4x64 : Shape := ⟨5, ![8, 16, 384, 4, 64]⟩
abbrev S8x16x4x384x128x4 : Shape := ⟨6, ![8, 16, 4, 384, 128, 4]⟩
abbrev S8x16x4x4x128x384 : Shape := ⟨6, ![8, 16, 4, 4, 128, 384]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S384 : Shape := ⟨1, ![384]⟩
abbrev S1x1x384 : Shape := ⟨3, ![1, 1, 384]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S4x4 : Shape := ⟨2, ![4, 4]⟩
abbrev S4x4x1x1 : Shape := ⟨4, ![4, 4, 1, 1]⟩
abbrev S8x16x4x4x128 : Shape := ⟨5, ![8, 16, 4, 4, 128]⟩
abbrev S8x16x4x4x128x1 : Shape := ⟨6, ![8, 16, 4, 4, 128, 1]⟩
abbrev S1x1x4x4x1x1 : Shape := ⟨6, ![1, 1, 4, 4, 1, 1]⟩
abbrev S8x16x4x64x4x128 : Shape := ⟨6, ![8, 16, 4, 64, 4, 128]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 222
  | .vmem => 0
  | .smem => 0
  | _ => 0

abbrev hbmTy0_0 (i : Nat) : BufTy := match i % 128 with
  | 0 => ⟨S8x2048x3584, .bf16⟩
  | 1 => ⟨S16, .f32⟩
  | 2 => ⟨S1024, .f32⟩
  | 3 => ⟨S8x2048x3584, .f32⟩
  | 4 => ⟨S8x2048x1024, .f32⟩
  | 5 => ⟨S8x2048x8x8x2x8, .f32⟩
  | 6 => ⟨S8x2048x8x1x2x8, .f32⟩
  | 7 => ⟨S8x2048x8x1x2x8, .f32⟩
  | 8 => ⟨S8x2048x8x3x2x8, .f32⟩
  | 9 => ⟨S8x2048x8x3x2x8, .f32⟩
  | 10 => ⟨S8x2048x8x8x2x8, .f32⟩
  | 11 => ⟨S8x2048x8x2x8x8, .f32⟩
  | 12 => ⟨S8x2048x16x64, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8, .f32⟩
  | 21 => ⟨S_, .f32⟩
  | 22 => ⟨S8, .f32⟩
  | 23 => ⟨S8, .f32⟩
  | 24 => ⟨S_, .f32⟩
  | 25 => ⟨S8, .f32⟩
  | 26 => ⟨S8, .f32⟩
  | 27 => ⟨S2048, .f32⟩
  | 28 => ⟨S2048x1, .f32⟩
  | 29 => ⟨S1x8, .f32⟩
  | 30 => ⟨S2048x8, .f32⟩
  | 31 => ⟨S2048x8, .f32⟩
  | 32 => ⟨S2048x8, .f32⟩
  | 33 => ⟨S2048x8, .f32⟩
  | 34 => ⟨S1x2048x1x8, .f32⟩
  | 35 => ⟨S2048x8, .f32⟩
  | 36 => ⟨S1x2048x1x8, .f32⟩
  | 37 => ⟨S8x2048x16x8, .f32⟩
  | 38 => ⟨S8x2048x16x8, .f32⟩
  | 39 => ⟨S8x2048x16x8, .f32⟩
  | 40 => ⟨S8x2048x16x8, .f32⟩
  | 41 => ⟨S8x2048x16x8, .f32⟩
  | 42 => ⟨S8x2048x16x8, .f32⟩
  | 43 => ⟨S8x2048x16x8, .f32⟩
  | 44 => ⟨S8x2048x16x8, .f32⟩
  | 45 => ⟨S8x2048x16x8, .f32⟩
  | 46 => ⟨S8x2048x16x8, .f32⟩
  | 47 => ⟨S8x2048x16x8, .f32⟩
  | 48 => ⟨S8x2048x16x8, .f32⟩
  | 49 => ⟨S8x2048x16x48, .f32⟩
  | 50 => ⟨S8x2048x16x64, .f32⟩
  | 51 => ⟨S8x2048x256, .f32⟩
  | 52 => ⟨S8x2048x2x8x2x8, .f32⟩
  | 53 => ⟨S8x2048x2x1x2x8, .f32⟩
  | 54 => ⟨S8x2048x2x1x2x8, .f32⟩
  | 55 => ⟨S8x2048x2x3x2x8, .f32⟩
  | 56 => ⟨S8x2048x2x3x2x8, .f32⟩
  | 57 => ⟨S8x2048x2x8x2x8, .f32⟩
  | 58 => ⟨S8x2048x2x2x8x8, .f32⟩
  | 59 => ⟨S8x2048x4x64, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S2048, .f32⟩
  | 75 => ⟨S2048x1, .f32⟩
  | 76 => ⟨S1x8, .f32⟩
  | 77 => ⟨S2048x8, .f32⟩
  | 78 => ⟨S2048x8, .f32⟩
  | 79 => ⟨S2048x8, .f32⟩
  | 80 => ⟨S2048x8, .f32⟩
  | 81 => ⟨S1x2048x1x8, .f32⟩
  | 82 => ⟨S2048x8, .f32⟩
  | 83 => ⟨S1x2048x1x8, .f32⟩
  | 84 => ⟨S8x2048x4x8, .f32⟩
  | 85 => ⟨S8x2048x4x8, .f32⟩
  | 86 => ⟨S8x2048x4x8, .f32⟩
  | 87 => ⟨S8x2048x4x8, .f32⟩
  | 88 => ⟨S8x2048x4x8, .f32⟩
  | 89 => ⟨S8x2048x4x8, .f32⟩
  | 90 => ⟨S8x2048x4x8, .f32⟩
  | 91 => ⟨S8x2048x4x8, .f32⟩
  | 92 => ⟨S8x2048x4x8, .f32⟩
  | 93 => ⟨S8x2048x4x8, .f32⟩
  | 94 => ⟨S8x2048x4x8, .f32⟩
  | 95 => ⟨S8x2048x4x8, .f32⟩
  | 96 => ⟨S8x2048x4x48, .f32⟩
  | 97 => ⟨S8x2048x4x64, .f32⟩
  | 98 => ⟨S8x2048x256, .f32⟩
  | 99 => ⟨S8x2048x4x64, .f32⟩
  | 100 => ⟨S8x2048x1024, .f32⟩
  | 101 => ⟨S8x16x128x4x4x64, .f32⟩
  | 102 => ⟨S_, .i32⟩
  | 103 => ⟨S_, .f32⟩
  | 104 => ⟨S8x2304x4x64, .f32⟩
  | 105 => ⟨S8x2048x4x64, .f32⟩
  | 106 => ⟨S8x16x128x4x64, .f32⟩
  | 107 => ⟨S8x2048x4x64, .f32⟩
  | 108 => ⟨S8x16x128x4x64, .f32⟩
  | 109 => ⟨S8x2048x4x64, .f32⟩
  | 110 => ⟨S8x16x128x4x64, .f32⟩
  | 111 => ⟨S8x16x384x4x64, .f32⟩
  | 112 => ⟨S_, .i32⟩
  | 113 => ⟨S_, .f32⟩
  | 114 => ⟨S8x2304x4x64, .f32⟩
  | 115 => ⟨S8x2048x4x64, .f32⟩
  | 116 => ⟨S8x16x128x4x64, .f32⟩
  | 117 => ⟨S8x2048x4x64, .f32⟩
  | 118 => ⟨S8x16x128x4x64, .f32⟩
  | 119 => ⟨S8x2048x4x64, .f32⟩
  | 120 => ⟨S8x16x128x4x64, .f32⟩
  | 121 => ⟨S8x16x384x4x64, .f32⟩
  | 122 => ⟨S8x16x4x384x128x4, .f32⟩
  | 123 => ⟨S8x16x4x4x128x384, .f32⟩
  | 124 => ⟨S_, .f32⟩
  | 125 => ⟨S8x16x4x4x128x384, .f32⟩
  | 126 => ⟨S8x16x4x4x128x384, .f32⟩
  | 127 => ⟨S16, .i32⟩
  | _ => ⟨S8x2048x3584, .bf16⟩

abbrev hbmTy0_1 (i : Nat) : BufTy := match i % 128 with
  | 0 => ⟨S16x1x1, .i32⟩
  | 1 => ⟨S_, .i32⟩
  | 2 => ⟨S16x1x1, .i32⟩
  | 3 => ⟨S16x1x1, .i32⟩
  | 4 => ⟨S128, .i32⟩
  | 5 => ⟨S1x128x1, .i32⟩
  | 6 => ⟨S16x128x1, .i32⟩
  | 7 => ⟨S16x128x1, .i32⟩
  | 8 => ⟨S16x128x1, .i32⟩
  | 9 => ⟨S_, .i32⟩
  | 10 => ⟨S16x1x1, .i32⟩
  | 11 => ⟨S16x1x1, .i32⟩
  | 12 => ⟨S_, .i32⟩
  | 13 => ⟨S16x1x1, .i32⟩
  | 14 => ⟨S16x1x1, .i32⟩
  | 15 => ⟨S384, .i32⟩
  | 16 => ⟨S1x1x384, .i32⟩
  | 17 => ⟨S16x1x384, .i32⟩
  | 18 => ⟨S16x1x384, .i32⟩
  | 19 => ⟨S16x1x384, .i32⟩
  | 20 => ⟨S16x128x384, .i32⟩
  | 21 => ⟨S16x128x384, .i32⟩
  | 22 => ⟨S16x128x384, .i32⟩
  | 23 => ⟨S16x128x384, .i32⟩
  | 24 => ⟨S_, .i32⟩
  | 25 => ⟨S16x128x384, .i32⟩
  | 26 => ⟨S16x128x384, .i1⟩
  | 27 => ⟨S_, .i32⟩
  | 28 => ⟨S16x1x384, .i32⟩
  | 29 => ⟨S16x1x384, .i1⟩
  | 30 => ⟨S16x128x384, .i1⟩
  | 31 => ⟨S16x128x384, .i1⟩
  | 32 => ⟨S_, .i32⟩
  | 33 => ⟨S16x1x384, .i32⟩
  | 34 => ⟨S16x1x384, .i1⟩
  | 35 => ⟨S16x128x384, .i1⟩
  | 36 => ⟨S16x128x384, .i1⟩
  | 37 => ⟨S1x16x1x1x128x384, .i1⟩
  | 38 => ⟨S_, .f32⟩
  | 39 => ⟨S_, .f32⟩
  | 40 => ⟨S8x16x4x4x128x384, .i1⟩
  | 41 => ⟨S8x16x4x4x128x384, .f32⟩
  | 42 => ⟨S8x16x4x4x128x384, .f32⟩
  | 43 => ⟨S4x4, .f32⟩
  | 44 => ⟨S4x4x1x1, .f32⟩
  | 45 => ⟨S_, .f32⟩
  | 46 => ⟨S8x16x4x4x128, .f32⟩
  | 47 => ⟨S8x16x4x4x128x1, .f32⟩
  | 48 => ⟨S1x1x4x4x1x1, .f32⟩
  | 49 => ⟨S8x16x4x4x128x1, .f32⟩
  | 50 => ⟨S8x16x4x4x128x1, .f32⟩
  | 51 => ⟨S8x16x4x4x128x384, .f32⟩
  | 52 => ⟨S8x16x4x4x128x384, .f32⟩
  | 53 => ⟨S8x16x4x4x128x384, .f32⟩
  | 54 => ⟨S_, .f32⟩
  | 55 => ⟨S8x16x4x4x128, .f32⟩
  | 56 => ⟨S8x16x4x4x128x1, .f32⟩
  | 57 => ⟨S1x1x4x4x1x1, .f32⟩
  | 58 => ⟨S8x16x4x4x128x1, .f32⟩
  | 59 => ⟨S8x16x4x4x128x1, .f32⟩
  | 60 => ⟨S8x16x4x4x128x1, .f32⟩
  | 61 => ⟨S8x16x4x4x128x1, .f32⟩
  | 62 => ⟨S8x16x4x4x128x384, .f32⟩
  | 63 => ⟨S8x16x4x4x128x384, .f32⟩
  | 64 => ⟨S8x16x4x64x4x128, .f32⟩
  | 65 => ⟨S8x16x128x4x4x64, .f32⟩
  | 66 => ⟨S8x2048x1024, .f32⟩
  | 67 => ⟨S8x2048x1024, .f32⟩
  | 68 => ⟨S_, .f32⟩
  | 69 => ⟨S8x2048, .f32⟩
  | 70 => ⟨S8x2048x1, .f32⟩
  | 71 => ⟨S_, .f32⟩
  | 72 => ⟨S8x2048x1, .f32⟩
  | 73 => ⟨S8x2048x1, .f32⟩
  | 74 => ⟨S_, .f32⟩
  | 75 => ⟨S8x2048x1, .f32⟩
  | 76 => ⟨S8x2048x1, .f32⟩
  | 77 => ⟨S8x2048x1, .f32⟩
  | 78 => ⟨S8x2048x1024, .f32⟩
  | 79 => ⟨S8x2048x1024, .f32⟩
  | 80 => ⟨S1x1x1024, .f32⟩
  | 81 => ⟨S8x2048x1024, .f32⟩
  | 82 => ⟨S8x2048x1024, .f32⟩
  | 83 => ⟨S8x2048x1024, .f32⟩
  | 84 => ⟨S8x2048x1024, .f32⟩
  | 85 => ⟨S_, .f32⟩
  | 86 => ⟨S8x2048x1024, .f32⟩
  | 87 => ⟨S8x2048x1024, .f32⟩
  | 88 => ⟨S_, .f32⟩
  | 89 => ⟨S8x2048x1024, .f32⟩
  | 90 => ⟨S8x2048x1024, .f32⟩
  | 91 => ⟨S8x2048x1024, .f32⟩
  | 92 => ⟨S8x2048x1024, .f32⟩
  | 93 => ⟨S8x2048x1024, .bf16⟩
  | _ => ⟨S8x2048x3584, .bf16⟩

abbrev hbmTy (i : Nat) : BufTy := match i / 128 with
  | 0 => hbmTy0_0 i
  | 1 => hbmTy0_1 i
  | _ => ⟨S8x2048x3584, .bf16⟩

abbrev bufTy : (tb : Table) → Fin (tcTables nBuf tb) → BufTy
  | .hbm, ⟨i, _⟩ => hbmTy i
  | _, _ => ⟨S8x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_3 : Ref sig .tc := ⟨.hbm, 61, rfl⟩
abbrev main_v54 : Ref sig .tc := ⟨.hbm, 62, rfl⟩
abbrev main_v55 : Ref sig .tc := ⟨.hbm, 63, rfl⟩
abbrev main_cst_4 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_cst_6 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_c : Ref sig .tc := ⟨.hbm, 102, rfl⟩
abbrev main_call0_v0 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_c_7 : Ref sig .tc := ⟨.hbm, 112, rfl⟩
abbrev main_call1_v0 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_8 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_c_9 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_c_10 : Ref sig .tc := ⟨.hbm, 137, rfl⟩
abbrev main_v120 : Ref sig .tc := ⟨.hbm, 138, rfl⟩
abbrev main_v121 : Ref sig .tc := ⟨.hbm, 139, rfl⟩
abbrev main_c_11 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_c_12 : Ref sig .tc := ⟨.hbm, 152, rfl⟩
abbrev main_v133 : Ref sig .tc := ⟨.hbm, 153, rfl⟩
abbrev main_v134 : Ref sig .tc := ⟨.hbm, 154, rfl⟩
abbrev main_c_13 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_c_14 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_15 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_cst_16 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_cst_17 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_cst_18 : Ref sig .tc := ⟨.hbm, 196, rfl⟩
abbrev main_v168 : Ref sig .tc := ⟨.hbm, 197, rfl⟩
abbrev main_v169 : Ref sig .tc := ⟨.hbm, 198, rfl⟩
abbrev main_cst_19 : Ref sig .tc := ⟨.hbm, 199, rfl⟩
abbrev main_v170 : Ref sig .tc := ⟨.hbm, 200, rfl⟩
abbrev main_v171 : Ref sig .tc := ⟨.hbm, 201, rfl⟩
abbrev main_cst_20 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_call3_v0 : Ref sig .tc := ⟨.hbm, 211, rfl⟩
abbrev main_call3_v1 : Ref sig .tc := ⟨.hbm, 212, rfl⟩
abbrev main_call3_cst : Ref sig .tc := ⟨.hbm, 213, rfl⟩
abbrev main_call3_v2 : Ref sig .tc := ⟨.hbm, 214, rfl⟩
abbrev main_call3_v3 : Ref sig .tc := ⟨.hbm, 215, rfl⟩
abbrev main_call3_cst_0 : Ref sig .tc := ⟨.hbm, 216, rfl⟩
abbrev main_call3_v4 : Ref sig .tc := ⟨.hbm, 217, rfl⟩
abbrev main_call3_v5 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩

abbrev nD : Nat := 1
abbrev τ : Topo := Topo.v7x

variable {F : FTy → Type} [FloatOps F]

def κ : String → Option EReal := fun
  | "mask" => some ⊥
  | _ => none
-- ==== Kernel2.lean ====
abbrev S16384x2048 : Shape := ⟨2, ![16384, 2048]⟩
abbrev S2048x6656 : Shape := ⟨2, ![2048, 6656]⟩
abbrev S2048x1024 : Shape := ⟨2, ![2048, 1024]⟩
abbrev S2048x256 : Shape := ⟨2, ![2048, 256]⟩
abbrev S2048x3072 : Shape := ⟨2, ![2048, 3072]⟩
abbrev S2048x8x2x8x8 : Shape := ⟨5, ![2048, 8, 2, 8, 8]⟩
abbrev S2048x8x2x1x8 : Shape := ⟨5, ![2048, 8, 2, 1, 8]⟩
abbrev S2048x8x8x2x8 : Shape := ⟨5, ![2048, 8, 8, 2, 8]⟩
abbrev S2048x2x2x8x8 : Shape := ⟨5, ![2048, 2, 2, 8, 8]⟩
abbrev S2048x2x2x1x8 : Shape := ⟨5, ![2048, 2, 2, 1, 8]⟩
abbrev S2048x2x8x2x8 : Shape := ⟨5, ![2048, 2, 8, 2, 8]⟩
abbrev S2048x3584 : Shape := ⟨2, ![2048, 3584]⟩
abbrev S16384x3584 : Shape := ⟨2, ![16384, 3584]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 36
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x6656, .f32⟩
  | .hbm, ⟨2, _⟩ => ⟨S2048x1024, .f32⟩
  | .hbm, ⟨3, _⟩ => ⟨S2048x256, .f32⟩
  | .hbm, ⟨4, _⟩ => ⟨S2048x256, .f32⟩
  | .hbm, ⟨5, _⟩ => ⟨S2048x1024, .f32⟩
  | .hbm, ⟨6, _⟩ => ⟨S2048x3072, .f32⟩
  | .hbm, ⟨7, _⟩ => ⟨S2048x1024, .f32⟩
  | .hbm, ⟨8, _⟩ => ⟨S2048x8x2x8x8, .f32⟩
  | .hbm, ⟨9, _⟩ => ⟨S2048x8x2x1x8, .f32⟩
  | .hbm, ⟨10, _⟩ => ⟨S2048x8x2x1x8, .f32⟩
  | .hbm, ⟨11, _⟩ => ⟨S2048x8x2x1x8, .f32⟩
  | .hbm, ⟨12, _⟩ => ⟨S2048x8x2x1x8, .f32⟩
  | .hbm, ⟨13, _⟩ => ⟨S2048x8x2x1x8, .f32⟩
  | .hbm, ⟨14, _⟩ => ⟨S2048x8x2x1x8, .f32⟩
  | .hbm, ⟨15, _⟩ => ⟨S2048x8x2x1x8, .f32⟩
  | .hbm, ⟨16, _⟩ => ⟨S2048x8x2x1x8, .f32⟩
  | .hbm, ⟨17, _⟩ => ⟨S2048x8x2x8x8, .f32⟩
  | .hbm, ⟨18, _⟩ => ⟨S2048x8x8x2x8, .f32⟩
  | .hbm, ⟨19, _⟩ => ⟨S2048x1024, .f32⟩
  | .hbm, ⟨20, _⟩ => ⟨S2048x2x2x8x8, .f32⟩
  | .hbm, ⟨21, _⟩ => ⟨S2048x2x2x1x8, .f32⟩
  | .hbm, ⟨22, _⟩ => ⟨S2048x2x2x1x8, .f32⟩
  | .hbm, ⟨23, _⟩ => ⟨S2048x2x2x1x8, .f32⟩
  | .hbm, ⟨24, _⟩ => ⟨S2048x2x2x1x8, .f32⟩
  | .hbm, ⟨25, _⟩ => ⟨S2048x2x2x1x8, .f32⟩
  | .hbm, ⟨26, _⟩ => ⟨S2048x2x2x1x8, .f32⟩
  | .hbm, ⟨27, _⟩ => ⟨S2048x2x2x1x8, .f32⟩
  | .hbm, ⟨28, _⟩ => ⟨S2048x2x2x1x8, .f32⟩
  | .hbm, ⟨29, _⟩ => ⟨S2048x2x2x8x8, .f32⟩
  | .hbm, ⟨30, _⟩ => ⟨S2048x2x8x2x8, .f32⟩
  | .hbm, ⟨31, _⟩ => ⟨S2048x256, .f32⟩
  | .hbm, ⟨32, _⟩ => ⟨S2048x3584, .f32⟩
  | .hbm, ⟨33, _⟩ => ⟨S2048x3584, .bf16⟩
  | .hbm, ⟨34, _⟩ => ⟨S2048x3072, .bf16⟩
  | .hbm, ⟨35, _⟩ => ⟨S16384x3584, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2048x6656 : Shape := ⟨2, ![2048, 6656]⟩
abbrev S16384x6656 : Shape := ⟨2, ![16384, 6656]⟩
abbrev S16384x1024 : Shape := ⟨2, ![16384, 1024]⟩
abbrev S16384x256 : Shape := ⟨2, ![16384, 256]⟩
abbrev S16384x8x2x8x8 : Shape := ⟨5, ![16384, 8, 2, 8, 8]⟩
abbrev S16384x8x2x1x8 : Shape := ⟨5, ![16384, 8, 2, 1, 8]⟩
abbrev S16384x8x2x3x8 : Shape := ⟨5, ![16384, 8, 2, 3, 8]⟩
abbrev S16384x8x8x2x8 : Shape := ⟨5, ![16384, 8, 8, 2, 8]⟩
abbrev S16384x2x2x8x8 : Shape := ⟨5, ![16384, 2, 2, 8, 8]⟩
abbrev S16384x2x2x1x8 : Shape := ⟨5, ![16384, 2, 2, 1, 8]⟩
abbrev S16384x2x2x3x8 : Shape := ⟨5, ![16384, 2, 2, 3, 8]⟩
abbrev S16384x2x8x2x8 : Shape := ⟨5, ![16384, 2, 8, 2, 8]⟩
abbrev S16384x3584 : Shape := ⟨2, ![16384, 3584]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6656, .f32⟩
  | .hbm, ⟨2, _⟩ => ⟨S16384x2048, .f32⟩
  | .hbm, ⟨3, _⟩ => ⟨S16384x6656, .f32⟩
  | .hbm, ⟨4, _⟩ => ⟨S16384x1024, .f32⟩
  | .hbm, ⟨5, _⟩ => ⟨S16384x256, .f32⟩
  | .hbm, ⟨6, _⟩ => ⟨S16384x256, .f32⟩
  | .hbm, ⟨7, _⟩ => ⟨S16384x1024, .f32⟩
  | .hbm, ⟨8, _⟩ => ⟨S16384x1024, .f32⟩
  | .hbm, ⟨9, _⟩ => ⟨S16384x8x2x8x8, .f32⟩
  | .hbm, ⟨10, _⟩ => ⟨S16384x8x2x1x8, .f32⟩
  | .hbm, ⟨11, _⟩ => ⟨S16384x8x2x3x8, .f32⟩
  | .hbm, ⟨12, _⟩ => ⟨S16384x8x2x1x8, .f32⟩
  | .hbm, ⟨13, _⟩ => ⟨S16384x8x2x3x8, .f32⟩
  | .hbm, ⟨14, _⟩ => ⟨S16384x8x2x8x8, .f32⟩
  | .hbm, ⟨15, _⟩ => ⟨S16384x8x8x2x8, .f32⟩
  | .hbm, ⟨16, _⟩ => ⟨S16384x1024, .f32⟩
  | .hbm, ⟨17, _⟩ => ⟨S16384x2x2x8x8, .f32⟩
  | .hbm, ⟨18, _⟩ => ⟨S16384x2x2x1x8, .f32⟩
  | .hbm, ⟨19, _⟩ => ⟨S16384x2x2x3x8, .f32⟩
  | .hbm, ⟨20, _⟩ => ⟨S16384x2x2x1x8, .f32⟩
  | .hbm, ⟨21, _⟩ => ⟨S16384x2x2x3x8, .f32⟩
  | .hbm, ⟨22, _⟩ => ⟨S16384x2x2x8x8, .f32⟩
  | .hbm, ⟨23, _⟩ => ⟨S16384x2x8x2x8, .f32⟩
  | .hbm, ⟨24, _⟩ => ⟨S16384x256, .f32⟩
  | .hbm, ⟨25, _⟩ => ⟨S16384x3584, .f32⟩
  | .hbm, ⟨26, _⟩ => ⟨S16384x3584, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩

abbrev nD : Nat := 1
abbrev τ : Topo := Topo.v7x

variable {F : FTy → Type} [FloatOps F]
-- ==== Kernel3.lean ====
abbrev S16384x2048 : Shape := ⟨2, ![16384, 2048]⟩
abbrev S2048x6656 : Shape := ⟨2, ![2048, 6656]⟩
abbrev S3x3072 : Shape := ⟨2, ![3, 3072]⟩
abbrev S3072 : Shape := ⟨1, ![3072]⟩
abbrev S2048x1024 : Shape := ⟨2, ![2048, 1024]⟩
abbrev S2048x256 : Shape := ⟨2, ![2048, 256]⟩
abbrev S2048x3072 : Shape := ⟨2, ![2048, 3072]⟩
abbrev S2048x8x2x8x8 : Shape := ⟨5, ![2048, 8, 2, 8, 8]⟩
abbrev S2048x8x2x1x8 : Shape := ⟨5, ![2048, 8, 2, 1, 8]⟩
abbrev S2048x8x8x2x8 : Shape := ⟨5, ![2048, 8, 8, 2, 8]⟩
abbrev S2048x2x2x8x8 : Shape := ⟨5, ![2048, 2, 2, 8, 8]⟩
abbrev S2048x2x2x1x8 : Shape := ⟨5, ![2048, 2, 2, 1, 8]⟩
abbrev S2048x2x8x2x8 : Shape := ⟨5, ![2048, 2, 8, 2, 8]⟩
abbrev S2048x3584 : Shape := ⟨2, ![2048, 3584]⟩
abbrev S1x3072 : Shape := ⟨2, ![1, 3072]⟩
abbrev S16384x3072 : Shape := ⟨2, ![16384, 3072]⟩
abbrev S16x2048 : Shape := ⟨2, ![16, 2048]⟩
abbrev S1024x2048 : Shape := ⟨2, ![1024, 2048]⟩
abbrev S2048x1536 : Shape := ⟨2, ![2048, 1536]⟩
abbrev S3x1536 : Shape := ⟨2, ![3, 1536]⟩
abbrev S1x1536 : Shape := ⟨2, ![1, 1536]⟩
abbrev S1024x1536 : Shape := ⟨2, ![1024, 1536]⟩
abbrev S1056x1536 : Shape := ⟨2, ![1056, 1536]⟩
abbrev S1056x2048 : Shape := ⟨2, ![1056, 2048]⟩
abbrev S8x1536 : Shape := ⟨2, ![8, 1536]⟩
abbrev S272x1536 : Shape := ⟨2, ![272, 1536]⟩
abbrev S256x1536 : Shape := ⟨2, ![256, 1536]⟩

abbrev nBuf : Space → Nat
  | .hbm => 39
  | .vmem => 15
  | .smem => 0
  | _ => 0

abbrev bufTy : (tb : Table) → Fin (tcTables nBuf tb) → BufTy
  | .hbm, ⟨0, _⟩ => ⟨S16384x2048, .bf16⟩
  | .hbm, ⟨1, _⟩ => ⟨S2048x6656, .f32⟩
  | .hbm, ⟨2, _⟩ => ⟨S3x3072, .f32⟩
  | .hbm, ⟨3, _⟩ => ⟨S3072, .f32⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x1024, .f32⟩
  | .hbm, ⟨8, _⟩ => ⟨S2048x3072, .f32⟩
  | .hbm, ⟨9, _⟩ => ⟨S2048x1024, .f32⟩
  | .hbm, ⟨10, _⟩ => ⟨S2048x8x2x8x8, .f32⟩
  | .hbm, ⟨11, _⟩ => ⟨S2048x8x2x1x8, .f32⟩
  | .hbm, ⟨12, _⟩ => ⟨S2048x8x2x1x8, .f32⟩
  | .hbm, ⟨13, _⟩ => ⟨S2048x8x2x1x8, .f32⟩
  | .hbm, ⟨14, _⟩ => ⟨S2048x8x2x1x8, .f32⟩
  | .hbm, ⟨15, _⟩ => ⟨S2048x8x2x1x8, .f32⟩
  | .hbm, ⟨16, _⟩ => ⟨S2048x8x2x1x8, .f32⟩
  | .hbm, ⟨17, _⟩ => ⟨S2048x8x2x1x8, .f32⟩
  | .hbm, ⟨18, _⟩ => ⟨S2048x8x2x1x8, .f32⟩
  | .hbm, ⟨19, _⟩ => ⟨S2048x8x2x8x8, .f32⟩
  | .hbm, ⟨20, _⟩ => ⟨S2048x8x8x2x8, .f32⟩
  | .hbm, ⟨21, _⟩ => ⟨S2048x1024, .f32⟩
  | .hbm, ⟨22, _⟩ => ⟨S2048x2x2x8x8, .f32⟩
  | .hbm, ⟨23, _⟩ => ⟨S2048x2x2x1x8, .f32⟩
  | .hbm, ⟨24, _⟩ => ⟨S2048x2x2x1x8, .f32⟩
  | .hbm, ⟨25, _⟩ => ⟨S2048x2x2x1x8, .f32⟩
  | .hbm, ⟨26, _⟩ => ⟨S2048x2x2x1x8, .f32⟩
  | .hbm, ⟨27, _⟩ => ⟨S2048x2x2x1x8, .f32⟩
  | .hbm, ⟨28, _⟩ => ⟨S2048x2x2x1x8, .f32⟩
  | .hbm, ⟨29, _⟩ => ⟨S2048x2x2x1x8, .f32⟩
  | .hbm, ⟨30, _⟩ => ⟨S2048x2x2x1x8, .f32⟩
  | .hbm, ⟨31, _⟩ => ⟨S2048x2x2x8x8, .f32⟩
  | .hbm, ⟨32, _⟩ => ⟨S2048x2x8x2x8, .f32⟩
  | .hbm, ⟨33, _⟩ => ⟨S2048x256, .f32⟩
  | .hbm, ⟨34, _⟩ => ⟨S2048x3584, .f32⟩
  | .hbm, ⟨35, _⟩ => ⟨S2048x3584, .bf16⟩
  | .hbm, ⟨36, _⟩ => ⟨S2048x3072, .bf16⟩
  | .hbm, ⟨37, _⟩ => ⟨S1x3072, .f32⟩
  | .hbm, ⟨38, _⟩ => ⟨S16384x3072, .bf16⟩
  | .local _ .vmem, ⟨0, _⟩ => ⟨S16x2048, .bf16⟩
  | .local _ .vmem, ⟨1, _⟩ => ⟨S16x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S2048x1536, .bf16⟩
  | .local _ .vmem, ⟨7, _⟩ => ⟨S2048x1536, .bf16⟩
  | .local _ .vmem, ⟨8, _⟩ => ⟨S3x1536, .f32⟩
  | .local _ .vmem, ⟨9, _⟩ => ⟨S3x1536, .f32⟩
  | .local _ .vmem, ⟨10, _⟩ => ⟨S1x1536, .f32⟩
  | .local _ .vmem, ⟨11, _⟩ => ⟨S1x1536, .f32⟩
  | .local _ .vmem, ⟨12, _⟩ => ⟨S1024x1536, .bf16⟩
  | .local _ .vmem, ⟨13, _⟩ => ⟨S1024x1536, .bf16⟩
  | .local _ .vmem, ⟨14, _⟩ => ⟨S1056x1536, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x2048 : Shape := ⟨2, ![16384, 2048]⟩
abbrev S2048x6656 : Shape := ⟨2, ![2048, 6656]⟩
abbrev S3x3072 : Shape := ⟨2, ![3, 3072]⟩
abbrev S3072 : Shape := ⟨1, ![3072]⟩
abbrev S2048x3072 : Shape := ⟨2, ![2048, 3072]⟩
abbrev S16384x3072 : Shape := ⟨2, ![16384, 3072]⟩
abbrev S8x2048x3072 : Shape := ⟨3, ![8, 2048, 3072]⟩
abbrev S_ : Shape := ⟨0, ![]⟩
abbrev S8x2050x3072 : Shape := ⟨3, ![8, 2050, 3072]⟩
abbrev S1x3072 : Shape := ⟨2, ![1, 3072]⟩
abbrev S1x1x3072 : Shape := ⟨3, ![1, 1, 3072]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x6656, .f32⟩
  | .hbm, ⟨2, _⟩ => ⟨S3x3072, .f32⟩
  | .hbm, ⟨3, _⟩ => ⟨S3072, .f32⟩
  | .hbm, ⟨4, _⟩ => ⟨S16384x2048, .f32⟩
  | .hbm, ⟨5, _⟩ => ⟨S2048x3072, .f32⟩
  | .hbm, ⟨6, _⟩ => ⟨S16384x3072, .f32⟩
  | .hbm, ⟨7, _⟩ => ⟨S8x2048x3072, .f32⟩
  | .hbm, ⟨8, _⟩ => ⟨S_, .i32⟩
  | .hbm, ⟨9, _⟩ => ⟨S_, .f32⟩
  | .hbm, ⟨10, _⟩ => ⟨S8x2050x3072, .f32⟩
  | .hbm, ⟨11, _⟩ => ⟨S8x2048x3072, .f32⟩
  | .hbm, ⟨12, _⟩ => ⟨S1x3072, .f32⟩
  | .hbm, ⟨13, _⟩ => ⟨S3072, .f32⟩
  | .hbm, ⟨14, _⟩ => ⟨S1x1x3072, .f32⟩
  | .hbm, ⟨15, _⟩ => ⟨S8x2048x3072, .f32⟩
  | .hbm, ⟨16, _⟩ => ⟨S8x2048x3072, .f32⟩
  | .hbm, ⟨17, _⟩ => ⟨S8x2048x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S8x2048x3072, .f32⟩
  | .hbm, ⟨22, _⟩ => ⟨S8x2048x3072, .f32⟩
  | .hbm, ⟨23, _⟩ => ⟨S8x2048x3072, .f32⟩
  | .hbm, ⟨24, _⟩ => ⟨S8x2048x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S8x2048x3072, .f32⟩
  | .hbm, ⟨29, _⟩ => ⟨S8x2048x3072, .f32⟩
  | .hbm, ⟨30, _⟩ => ⟨S8x2048x3072, .f32⟩
  | .hbm, ⟨31, _⟩ => ⟨S1x1x3072, .f32⟩
  | .hbm, ⟨32, _⟩ => ⟨S8x2048x3072, .f32⟩
  | .hbm, ⟨33, _⟩ => ⟨S8x2048x3072, .f32⟩
  | .hbm, ⟨34, _⟩ => ⟨S16384x3072, .f32⟩
  | .hbm, ⟨35, _⟩ => ⟨S16384x3072, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel4.lean ====
abbrev S16384x1024 : Shape := ⟨2, ![16384, 1024]⟩
abbrev S16384x3584 : Shape := ⟨2, ![16384, 3584]⟩
abbrev S1024 : Shape := ⟨1, ![1024]⟩
abbrev S2048x2048 : Shape := ⟨2, ![2048, 2048]⟩
abbrev S16384x2048 : Shape := ⟨2, ![16384, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x3584, .bf16⟩
  | .hbm, ⟨3, _⟩ => ⟨S1024, .f32⟩
  | .hbm, ⟨4, _⟩ => ⟨S2048x2048, .f32⟩
  | .hbm, ⟨5, _⟩ => ⟨S16384x2048, .f32⟩
  | .hbm, ⟨6, _⟩ => ⟨S2048, .f32⟩
  | .hbm, ⟨7, _⟩ => ⟨S2048, .f32⟩
  | .hbm, ⟨8, _⟩ => ⟨S1x1024, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x3584 : Shape := ⟨2, ![16384, 3584]⟩
abbrev S1024 : Shape := ⟨1, ![1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2048 : Shape := ⟨2, ![1, 2048]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x3584, .bf16⟩
  | .hbm, ⟨3, _⟩ => ⟨S1024, .f32⟩
  | .hbm, ⟨4, _⟩ => ⟨S2048x2048, .f32⟩
  | .hbm, ⟨5, _⟩ => ⟨S16384x2048, .f32⟩
  | .hbm, ⟨6, _⟩ => ⟨S2048, .f32⟩
  | .hbm, ⟨7, _⟩ => ⟨S2048, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S16384x2048, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S1x2048, .f32⟩
  | .hbm, ⟨30, _⟩ => ⟨S16384x2048, .f32⟩
  | .hbm, ⟨31, _⟩ => ⟨S16384x2048, .f32⟩
  | .hbm, ⟨32, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel6.lean ====
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S4096 : Shape := ⟨1, ![4096]⟩
abbrev S64x2x2x1024 : Shape := ⟨4, ![64, 2, 2, 1024]⟩
abbrev S2x2x1024 : Shape := ⟨3, ![2, 2, 1024]⟩
abbrev S64x2x1x1024 : Shape := ⟨4, ![64, 2, 1, 1024]⟩
abbrev S64x2x1024 : Shape := ⟨3, ![64, 2, 1024]⟩
abbrev S64x2048 : Shape := ⟨2, ![64, 2048]⟩
abbrev S2x1x1024 : Shape := ⟨3, ![2, 1, 1024]⟩
abbrev S2x1024 : Shape := ⟨2, ![2, 1024]⟩
abbrev S1x2048 : Shape := ⟨2, ![1, 2048]⟩
abbrev S_ : Shape := ⟨0, ![]⟩
abbrev S15 : Shape := ⟨1, ![15]⟩
abbrev S1 : Shape := ⟨1, ![1]⟩
abbrev S16 : Shape := ⟨1, ![16]⟩
abbrev S16x1 : Shape := ⟨2, ![16, 1]⟩
abbrev S1x64 : Shape := ⟨2, ![1, 64]⟩
abbrev S64x1 : Shape := ⟨2, ![64, 1]⟩
abbrev S16x64 : Shape := ⟨2, ![16, 64]⟩
abbrev S64x16 : Shape := ⟨2, ![64, 16]⟩
abbrev S2048x2048 : Shape := ⟨2, ![2048, 2048]⟩
abbrev S512x2048 : Shape := ⟨2, ![512, 2048]⟩
abbrev S1x640 : Shape := ⟨2, ![1, 640]⟩
abbrev S16x640 : Shape := ⟨2, ![16, 640]⟩
abbrev S64x640 : Shape := ⟨2, ![64, 640]⟩
abbrev S64x512 : Shape := ⟨2, ![64, 512]⟩
abbrev S512x1 : Shape := ⟨2, ![512, 1]⟩
abbrev S192x512 : Shape := ⟨2, ![192, 512]⟩
abbrev S192x2048 : Shape := ⟨2, ![192, 2048]⟩
abbrev S2048 : Shape := ⟨1, ![2048]⟩
abbrev S64x128 : Shape := ⟨2, ![64, 128]⟩
abbrev S192x128 : Shape := ⟨2, ![192, 128]⟩
abbrev S128x2048 : Shape := ⟨2, ![128, 2048]⟩

abbrev nBuf : Space → Nat
  | .hbm => 60
  | .vmem => 18
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64x4096, .f32⟩
  | .hbm, ⟨7, _⟩ => ⟨S4096, .f32⟩
  | .hbm, ⟨8, _⟩ => ⟨S64x2x2x1024, .f32⟩
  | .hbm, ⟨9, _⟩ => ⟨S2x2x1024, .f32⟩
  | .hbm, ⟨10, _⟩ => ⟨S64x2x1x1024, .f32⟩
  | .hbm, ⟨11, _⟩ => ⟨S64x2x1024, .f32⟩
  | .hbm, ⟨12, _⟩ => ⟨S64x2048, .f32⟩
  | .hbm, ⟨13, _⟩ => ⟨S64x2x1x1024, .f32⟩
  | .hbm, ⟨14, _⟩ => ⟨S64x2x1024, .f32⟩
  | .hbm, ⟨15, _⟩ => ⟨S64x2048, .f32⟩
  | .hbm, ⟨16, _⟩ => ⟨S2x1x1024, .f32⟩
  | .hbm, ⟨17, _⟩ => ⟨S2x1024, .f32⟩
  | .hbm, ⟨18, _⟩ => ⟨S1x2048, .f32⟩
  | .hbm, ⟨19, _⟩ => ⟨S2x1x1024, .f32⟩
  | .hbm, ⟨20, _⟩ => ⟨S2x1024, .f32⟩
  | .hbm, ⟨21, _⟩ => ⟨S1x2048, .f32⟩
  | .hbm, ⟨22, _⟩ => ⟨S_, .f32⟩
  | .hbm, ⟨23, _⟩ => ⟨S_, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S15, .f32⟩
  | .hbm, ⟨30, _⟩ => ⟨S_, .f32⟩
  | .hbm, ⟨31, _⟩ => ⟨S15, .f32⟩
  | .hbm, ⟨32, _⟩ => ⟨S15, .f32⟩
  | .hbm, ⟨33, _⟩ => ⟨S1, .f32⟩
  | .hbm, ⟨34, _⟩ => ⟨S_, .f32⟩
  | .hbm, ⟨35, _⟩ => ⟨S15, .f32⟩
  | .hbm, ⟨36, _⟩ => ⟨S15, .f32⟩
  | .hbm, ⟨37, _⟩ => ⟨S15, .f32⟩
  | .hbm, ⟨38, _⟩ => ⟨S15, .f32⟩
  | .hbm, ⟨39, _⟩ => ⟨S1, .f32⟩
  | .hbm, ⟨40, _⟩ => ⟨S15, .f32⟩
  | .hbm, ⟨41, _⟩ => ⟨S15, .f32⟩
  | .hbm, ⟨42, _⟩ => ⟨S15, .f32⟩
  | .hbm, ⟨43, _⟩ => ⟨S1, .f32⟩
  | .hbm, ⟨44, _⟩ => ⟨S16, .f32⟩
  | .hbm, ⟨45, _⟩ => ⟨S16x1, .f32⟩
  | .hbm, ⟨46, _⟩ => ⟨S1x64, .f32⟩
  | .hbm, ⟨47, _⟩ => ⟨S64x1, .f32⟩
  | .hbm, ⟨48, _⟩ => ⟨S16x64, .f32⟩
  | .hbm, ⟨49, _⟩ => ⟨S64x16, .f32⟩
  | .hbm, ⟨50, _⟩ => ⟨S16x64, .f32⟩
  | .hbm, ⟨51, _⟩ => ⟨S64x16, .f32⟩
  | .hbm, ⟨52, _⟩ => ⟨S64x1, .f32⟩
  | .hbm, ⟨53, _⟩ => ⟨S64x1, .f32⟩
  | .hbm, ⟨54, _⟩ => ⟨S64x64, .f32⟩
  | .hbm, ⟨55, _⟩ => ⟨S64x1, .f32⟩
  | .hbm, ⟨56, _⟩ => ⟨S64x1, .f32⟩
  | .hbm, ⟨57, _⟩ => ⟨S2048x2048, .bf16⟩
  | .hbm, ⟨58, _⟩ => ⟨S2048x2048, .bf16⟩
  | .hbm, ⟨59, _⟩ => ⟨S1x2048, .f32⟩
  | .local _ .vmem, ⟨0, _⟩ => ⟨S16x1, .f32⟩
  | .local _ .vmem, ⟨1, _⟩ => ⟨S64x1, .f32⟩
  | .local _ .vmem, ⟨2, _⟩ => ⟨S64x16, .f32⟩
  | .local _ .vmem, ⟨3, _⟩ => ⟨S64x16, .f32⟩
  | .local _ .vmem, ⟨4, _⟩ => ⟨S64x1, .f32⟩
  | .local _ .vmem, ⟨5, _⟩ => ⟨S64x1, .f32⟩
  | .local _ .vmem, ⟨6, _⟩ => ⟨S64x64, .f32⟩
  | .local _ .vmem, ⟨7, _⟩ => ⟨S64x1, .f32⟩
  | .local _ .vmem, ⟨8, _⟩ => ⟨S64x1, .f32⟩
  | .local _ .vmem, ⟨9, _⟩ => ⟨S64x2048, .f32⟩
  | .local _ .vmem, ⟨10, _⟩ => ⟨S64x2048, .f32⟩
  | .local _ .vmem, ⟨11, _⟩ => ⟨S1x2048, .f32⟩
  | .local _ .vmem, ⟨12, _⟩ => ⟨S1x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_cst : Ref sig .tc := ⟨.hbm, 27, rfl⟩
abbrev main_call0_v3 : Ref sig .tc := ⟨.hbm, 28, rfl⟩
abbrev main_call0_v4 : Ref sig .tc := ⟨.hbm, 29, rfl⟩
abbrev main_call0_cst_0 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_v15 : Ref sig .tc := ⟨.hbm, 42, rfl⟩
abbrev main_call0_v16 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v169 : BitVec 1 := Scalar.cmpi .eq arg0 c0_i32
  let v170 : BitVec 32 := Scalar.extui v169
  let c0_i32_54 : BitVec 32 := 0#32
  let v171 : BitVec 1 := Scalar.cmpi .ne v170 c0_i32_54
  v171

def k0_cond2 (i : grid0.Coords) : BitVec 1 :=
  let arg0 : BitVec 32 := BitVec.ofNat 32 (i 0).val
  let c0_i32_55 : BitVec 32 := 0#32
  let v172 : BitVec 1 := Scalar.cmpi .sgt arg0 c0_i32_55
  let v173 : BitVec 32 := Scalar.extui v172
  let c0_i32_56 : BitVec 32 := 0#32
  let v174 : BitVec 1 := Scalar.cmpi .ne v173 c0_i32_56
  v174

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference6Ideal.lean ====
abbrev S33x64 : Shape := ⟨2, ![33, 64]⟩
abbrev S64 : Shape := ⟨1, ![64]⟩
abbrev S64x64 : Shape := ⟨2, ![64, 64]⟩
abbrev S64x4096 : Shape := ⟨2, ![64, 4096]⟩
abbrev S4096 : Shape := ⟨1, ![4096]⟩
abbrev S2048 : Shape := ⟨1, ![2048]⟩
abbrev S_ : Shape := ⟨0, ![]⟩
abbrev S15 : Shape := ⟨1, ![15]⟩
abbrev S1 : Shape := ⟨1, ![1]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x4096 : Shape := ⟨2, ![2048, 4096]⟩
abbrev S1x4096 : Shape := ⟨2, ![1, 4096]⟩
abbrev S2048x2x2x1024 : Shape := ⟨4, ![2048, 2, 2, 1024]⟩
abbrev S2x2x1024 : Shape := ⟨3, ![2, 2, 1024]⟩
abbrev S2x1024 : Shape := ⟨2, ![2, 1024]⟩
abbrev S1x2048 : Shape := ⟨2, ![1, 2048]⟩
abbrev S2048x2x1x1024 : Shape := ⟨4, ![2048, 2, 1, 1024]⟩
abbrev S2048x2x1024 : Shape := ⟨3, ![2048, 2, 1024]⟩
abbrev S2048x2048 : Shape := ⟨2, ![2048, 2048]⟩
abbrev S2047x2x1x1024 : Shape := ⟨4, ![2047, 2, 1, 1024]⟩
abbrev S2047x2x1024 : Shape := ⟨3, ![2047, 2, 1024]⟩
abbrev S2047x2048 : Shape := ⟨2, ![2047, 2048]⟩

abbrev nBuf : Space → Nat
  | .hbm => 95
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64x4096, .f32⟩
  | .hbm, ⟨7, _⟩ => ⟨S4096, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S_, .f32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S15, .f32⟩
  | .hbm, ⟨26, _⟩ => ⟨S_, .f32⟩
  | .hbm, ⟨27, _⟩ => ⟨S15, .f32⟩
  | .hbm, ⟨28, _⟩ => ⟨S15, .f32⟩
  | .hbm, ⟨29, _⟩ => ⟨S1, .f32⟩
  | .hbm, ⟨30, _⟩ => ⟨S_, .f32⟩
  | .hbm, ⟨31, _⟩ => ⟨S15, .f32⟩
  | .hbm, ⟨32, _⟩ => ⟨S15, .f32⟩
  | .hbm, ⟨33, _⟩ => ⟨S15, .f32⟩
  | .hbm, ⟨34, _⟩ => ⟨S15, .f32⟩
  | .hbm, ⟨35, _⟩ => ⟨S1, .f32⟩
  | .hbm, ⟨36, _⟩ => ⟨S15, .f32⟩
  | .hbm, ⟨37, _⟩ => ⟨S15, .f32⟩
  | .hbm, ⟨38, _⟩ => ⟨S15, .f32⟩
  | .hbm, ⟨39, _⟩ => ⟨S1, .f32⟩
  | .hbm, ⟨40, _⟩ => ⟨S16, .f32⟩
  | .hbm, ⟨41, _⟩ => ⟨S2048x1, .f32⟩
  | .hbm, ⟨42, _⟩ => ⟨S1x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x1, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x33, .f32⟩
  | .hbm, ⟨51, _⟩ => ⟨S2048x64, .f32⟩
  | .hbm, ⟨52, _⟩ => ⟨S1x64, .f32⟩
  | .hbm, ⟨53, _⟩ => ⟨S2048x64, .f32⟩
  | .hbm, ⟨54, _⟩ => ⟨S2048x64, .f32⟩
  | .hbm, ⟨55, _⟩ => ⟨S1x64, .f32⟩
  | .hbm, ⟨56, _⟩ => ⟨S2048x64, .f32⟩
  | .hbm, ⟨57, _⟩ => ⟨S2048x64, .f32⟩
  | .hbm, ⟨58, _⟩ => ⟨S2048x64, .f32⟩
  | .hbm, ⟨59, _⟩ => ⟨S2048x64, .f32⟩
  | .hbm, ⟨60, _⟩ => ⟨S1x64, .f32⟩
  | .hbm, ⟨61, _⟩ => ⟨S2048x64, .f32⟩
  | .hbm, ⟨62, _⟩ => ⟨S2048x64, .f32⟩
  | .hbm, ⟨63, _⟩ => ⟨S1x64, .f32⟩
  | .hbm, ⟨64, _⟩ => ⟨S2048x64, .f32⟩
  | .hbm, ⟨65, _⟩ => ⟨S2048x64, .f32⟩
  | .hbm, ⟨66, _⟩ => ⟨S2048x64, .f32⟩
  | .hbm, ⟨67, _⟩ => ⟨S2048x4096, .f32⟩
  | .hbm, ⟨68, _⟩ => ⟨S2048x1, .f32⟩
  | .hbm, ⟨69, _⟩ => ⟨S2048x1, .f32⟩
  | .hbm, ⟨70, _⟩ => ⟨S4096, .f32⟩
  | .hbm, ⟨71, _⟩ => ⟨S1x4096, .f32⟩
  | .hbm, ⟨72, _⟩ => ⟨S2048x4096, .f32⟩
  | .hbm, ⟨73, _⟩ => ⟨S2048x4096, .f32⟩
  | .hbm, ⟨74, _⟩ => ⟨S2048x4096, .f32⟩
  | .hbm, ⟨75, _⟩ => ⟨S2048x4096, .f32⟩
  | .hbm, ⟨76, _⟩ => ⟨S2048x4096, .f32⟩
  | .hbm, ⟨77, _⟩ => ⟨S2048x2x2x1024, .f32⟩
  | .hbm, ⟨78, _⟩ => ⟨S2048x2x2x1024, .f32⟩
  | .hbm, ⟨79, _⟩ => ⟨S_, .f32⟩
  | .hbm, ⟨80, _⟩ => ⟨S2x2x1024, .f32⟩
  | .hbm, ⟨81, _⟩ => ⟨S_, .f32⟩
  | .hbm, ⟨82, _⟩ => ⟨S2x1024, .f32⟩
  | .hbm, ⟨83, _⟩ => ⟨S1x2048, .f32⟩
  | .hbm, ⟨84, _⟩ => ⟨S2048x2x1x1024, .f32⟩
  | .hbm, ⟨85, _⟩ => ⟨S2048x2x1024, .f32⟩
  | .hbm, ⟨86, _⟩ => ⟨S2048x2048, .f32⟩
  | .hbm, ⟨87, _⟩ => ⟨S2047x2x1x1024, .f32⟩
  | .hbm, ⟨88, _⟩ => ⟨S2047x2x1024, .f32⟩
  | .hbm, ⟨89, _⟩ => ⟨S2047x2048, .f32⟩
  | .hbm, ⟨90, _⟩ => ⟨S_, .f32⟩
  | .hbm, ⟨91, _⟩ => ⟨S1x2048, .f32⟩
  | .hbm, ⟨92, _⟩ => ⟨S2048x2048, .f32⟩
  | .hbm, ⟨93, _⟩ => ⟨S2048x2048, .bf16⟩
  | .hbm, ⟨94, _⟩ => ⟨S2048x2048, .bf16⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_3 : Ref sig .tc := ⟨.hbm, 79, rfl⟩
abbrev main_v46 : Ref sig .tc := ⟨.hbm, 80, rfl⟩
abbrev main_cst_4 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_5 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩

abbrev nD : Nat := 1
abbrev τ : Topo := Topo.v7x

variable {F : FTy → Type} [FloatOps F]
-- ==== Kernel7.lean ====
abbrev S16384x1024 : Shape := ⟨2, ![16384, 1024]⟩
abbrev S16384x3584 : Shape := ⟨2, ![16384, 3584]⟩
abbrev S1024 : Shape := ⟨1, ![1024]⟩
abbrev S2048x2048 : Shape := ⟨2, ![2048, 2048]⟩
abbrev S16384x2048 : Shape := ⟨2, ![16384, 2048]⟩
abbrev S2048 : Shape := ⟨1, ![2048]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 14
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x3584, .bf16⟩
  | .hbm, ⟨3, _⟩ => ⟨S1024, .f32⟩
  | .hbm, ⟨4, _⟩ => ⟨S2048x2048, .f32⟩
  | .hbm, ⟨5, _⟩ => ⟨S16384x2048, .f32⟩
  | .hbm, ⟨6, _⟩ => ⟨S2048, .f32⟩
  | .hbm, ⟨7, _⟩ => ⟨S2048, .f32⟩
  | .hbm, ⟨8, _⟩ => ⟨S1x1024, .f32⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S16384x1024 : Shape := ⟨2, ![16384, 1024]⟩
abbrev S16384x3584 : Shape := ⟨2, ![16384, 3584]⟩
abbrev S1024 : Shape := ⟨1, ![1024]⟩
abbrev S2048x2048 : Shape := ⟨2, ![2048, 2048]⟩
abbrev S16384x2048 : Shape := ⟨2, ![16384, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x2048 : Shape := ⟨2, ![1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x3584, .bf16⟩
  | .hbm, ⟨3, _⟩ => ⟨S1024, .f32⟩
  | .hbm, ⟨4, _⟩ => ⟨S2048x2048, .f32⟩
  | .hbm, ⟨5, _⟩ => ⟨S16384x2048, .f32⟩
  | .hbm, ⟨6, _⟩ => ⟨S2048, .f32⟩
  | .hbm, ⟨7, _⟩ => ⟨S2048, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x2048, .f32⟩
  | .hbm, ⟨60, _⟩ => ⟨S16384x2048, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S16384x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.FilterPay.lean ====
/- The filter network's stored values, read at an index. -/
module
public import proofs.«01_k».proof.Proof.Gen.Kernel6Ideal.Skeleton
public import Idealize.ShloMosaic.Lib.Claim
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.Filter

/-- A number, not an infinity. -/
def IsNum (x : EReal) : Prop := ∃ r : ℝ, x = r

/-- A product of three half products. -/
def d3 {n : ℕ} (a b : Fin n → EReal) : EReal :=
  ∑ x, a x * b x + (∑ x, a x * (b x - b x) + ∑ x, (a x - a x) * b x)

/-- The same over one long contraction. -/
def t3 {n : ℕ} (a b : Fin n → EReal) : EReal :=
  ∑ x, a x * b x + ∑ x, (a x - a x) * b x + ∑ x, a x * (b x - b x)

/-- The angle of a band at a lag. -/
def ang (p : EReal) (bd : Fin 16 → EReal) (k : Fin 16) : EReal :=
  bd k * Ideal.div (Ideal.ofBits FTy.f32 0x40C90FDB#32 * p) (Ideal.ofBits FTy.f32 0x45000000#32)

/-- One lag's entry of a filter, from its hidden row, its weights, its time and its decay's size. -/
def tap (h w : Fin 64 → EReal) (t d : EReal) : EReal := (∑ j, h j * w j) * Ideal.exp ((0 - t) * d)

/-- The size of a number, as the operation takes it. -/
def size (x : EReal) : EReal := FloatOps.absf (F := Ideal) (φ := .f32) x

/-- A sum over three thirds. -/
theorem thirds (h l w e : Fin 64 → EReal) :
    (∑ x : Fin 192, (if h1 : x.val < 64 then h ⟨x.val, h1⟩ else if h2 : x.val - 64 < 64 then l ⟨x.val - 64, h2⟩ else h ⟨x.val - 64 - 64, by omega⟩)
      * (if h1 : x.val < 64 then w ⟨x.val, h1⟩ else if h2 : x.val - 64 < 64 then w ⟨x.val - 64, h2⟩ else e ⟨x.val - 64 - 64, by omega⟩))
      = ∑ x, h x * w x + ∑ x, l x * w x + ∑ x, h x * e x := by
  rw [show (∑ x : Fin 192, (if h1 : x.val < 64 then h ⟨x.val, h1⟩ else if h2 : x.val - 64 < 64 then l ⟨x.val - 64, h2⟩ else h ⟨x.val - 64 - 64, by omega⟩)
      * (if h1 : x.val < 64 then w ⟨x.val, h1⟩ else if h2 : x.val - 64 < 64 then w ⟨x.val - 64, h2⟩ else e ⟨x.val - 64 - 64, by omega⟩))
      = ∑ x : Fin (64 + 64 + 64), (if h1 : x.val < 64 then h ⟨x.val, h1⟩ else if h2 : x.val - 64 < 64 then l ⟨x.val - 64, h2⟩ else h ⟨x.val - 64 - 64, by omega⟩)
      * (if h1 : x.val < 64 then w ⟨x.val, h1⟩ else if h2 : x.val - 64 < 64 then w ⟨x.val - 64, h2⟩ else e ⟨x.val - 64 - 64, by omega⟩) from rfl,
    Fin.sum_univ_add, Fin.sum_univ_add]
  refine congrArg₂ _ (congrArg₂ _ (Finset.sum_congr rfl fun x _ => ?_) (Finset.sum_congr rfl fun x _ => ?_)) (Finset.sum_congr rfl fun x _ => ?_)
  · simp
  · simp
  · have hx := x.isLt
    have e1 : ¬ (64 + 64 + x.val < 64) := by omega
    have e2 : ¬ (64 + 64 + x.val - 64 < 64) := by omega
    have e3 : 64 + 64 + x.val - 64 - 64 = x.val := by omega
    simp only [Fin.val_natAdd, e1, e2, e3, dite_false]

/-- A number times a value that is not the top splits into its halves. -/
theorem split_term (r : ℝ) (b : EReal) (hb : b ≠ ⊤) : (r : EReal) * b + ((r : EReal) * (b - b) + ((r : EReal) - r) * b) = r * b := by
  have hr : (r : EReal) - r = 0 := by rw [← EReal.coe_sub, sub_self]; rfl
  rw [hr, zero_mul, add_zero]
  induction b with
  | bot =>
    rw [show (⊥ : EReal) - ⊥ = ⊥ from rfl]
    rcases lt_trichotomy r 0 with h | h | h
    · rw [EReal.coe_mul_bot_of_neg h]; rfl
    · subst h; simp
    · rw [EReal.coe_mul_bot_of_pos h]; rfl
  | coe b => rw [← EReal.coe_sub, sub_self]; simp
  | top => exact absurd rfl hb

/-- Infinite, of either sign. -/
def Inf (x : EReal) : Prop := x = ⊤ ∨ x = ⊥

/-- A sum with an infinite part is infinite. -/
theorem inf_add {x : EReal} (h : Inf x) (y : EReal) : Inf (x + y) := by
  rcases h with rfl | rfl
  · induction y with
    | bot => exact Or.inr rfl
    | coe y => exact Or.inl rfl
    | top => exact Or.inl rfl
  · exact Or.inr (EReal.bot_add y)

/-- A product of an infinite factor and one other than zero is infinite. -/
theorem inf_mul {x y : EReal} (h : Inf x) (hy : y ≠ 0) : Inf (y * x) := by
  rcases h with rfl | rfl <;> rcases lt_or_gt_of_ne hy with h | h
  · exact Or.inr (EReal.mul_top_of_neg h)
  · exact Or.inl (EReal.mul_top_of_pos h)
  · exact Or.inl (EReal.mul_bot_of_neg h)
  · exact Or.inr (EReal.mul_bot_of_pos h)

/-- Equal, or both infinite. -/
def Alike (x y : EReal) : Prop := x = y ∨ (Inf x ∧ Inf y)

theorem Alike.rfl' (x : EReal) : Alike x x := Or.inl rfl

/-- Sums of alike values are alike. -/
theorem Alike.add {x y x' y' : EReal} (h : Alike x y) (h' : Alike x' y') : Alike (x + x') (y + y') := by
  rcases h with rfl | ⟨h1, h2⟩
  · rcases h' with rfl | ⟨h1, h2⟩
    · exact Or.inl rfl
    · rw [add_comm x, add_comm x]; exact Or.inr ⟨inf_add h1 _, inf_add h2 _⟩
  · exact Or.inr ⟨inf_add h1 _, inf_add h2 _⟩

/-- Long sums of alike values are alike. -/
theorem Alike.sum {n : ℕ} (f g : Fin n → EReal) (h : ∀ x, Alike (f x) (g x)) : Alike (∑ x, f x) (∑ x, g x) := by
  induction n with
  | zero => exact Or.inl rfl
  | succ n ih =>
    rw [Fin.sum_univ_succ, Fin.sum_univ_succ]
    exact (h 0).add (ih _ _ fun x => h _)

/-- Sines of multiples of alike values are equal. -/
theorem Alike.sin {x y : EReal} (h : Alike x y) (f : EReal) : Ideal.sin (f * x) = Ideal.sin (f * y) := by
  rcases h with rfl | ⟨h1, h2⟩
  · rfl
  · by_cases hf : f = 0
    · rw [hf, zero_mul, zero_mul]
    · have e : ∀ z, Inf z → Ideal.sin z = ⊥ := fun z hz => by rcases hz with rfl | rfl <;> rfl
      rw [e _ (inf_mul h1 hf), e _ (inf_mul h2 hf)]

/-- A product taken with the splits' differences is the product or both are infinite. -/
theorem alike_term (a b : EReal) : Alike (a * b + (a * (b - b) + (a - a) * b)) (a * b) := by
  have hs : ∀ r : ℝ, (r : EReal) - r = 0 := fun r => by rw [← EReal.coe_sub, sub_self]; rfl
  by_cases ha : a = 0
  · subst ha; left; simp
  by_cases hb : b = 0
  · subst hb; left; simp
  by_cases h1 : Inf (a * b)
  · exact Or.inr ⟨inf_add h1 _, h1⟩
  have na : ¬ Inf a := fun h => h1 (by rw [mul_comm]; exact inf_mul h hb)
  have nb : ¬ Inf b := fun h => h1 (inf_mul h ha)
  obtain ⟨r, rfl⟩ : ∃ r : ℝ, a = r := ⟨a.toReal, (EReal.coe_toReal (fun e => na (Or.inl e)) (fun e => na (Or.inr e))).symm⟩
  obtain ⟨q, rfl⟩ : ∃ q : ℝ, b = q := ⟨b.toReal, (EReal.coe_toReal (fun e => nb (Or.inl e)) (fun e => nb (Or.inr e))).symm⟩
  left
  rw [hs, hs, mul_zero, zero_mul, add_zero, add_zero]

/-- The same of a contraction. -/
theorem alike_d3 {n : ℕ} (a b : Fin n → EReal) : Alike (d3 a b) (∑ x, a x * b x) := by
  unfold d3
  rw [← Finset.sum_add_distrib, ← Finset.sum_add_distrib]
  exact Alike.sum _ _ fun x => alike_term _ _

/-- The same over one long contraction. -/
theorem t3_eq {n : ℕ} (h w : Fin n → EReal) (hw : ∀ x, ∃ r : ℝ, w x = r) (hh : ∀ x, h x ≠ ⊤) : t3 h w = ∑ x, h x * w x := by
  unfold t3
  rw [← Finset.sum_add_distrib, ← Finset.sum_add_distrib]
  refine Finset.sum_congr rfl fun x _ => ?_
  obtain ⟨r, hr⟩ := hw x
  rw [hr, mul_comm (h x), mul_comm (h x - h x), mul_comm (h x), add_assoc, add_comm ((r : EReal) * (h x - h x)),
    show ((r : EReal) - r) * h x = ((r : EReal) - r) * h x from rfl, add_comm (((r : EReal) - r) * h x)]
  exact split_term r _ (hh x)

/-- A sine is never the top. -/
theorem sin_ne_top (x : EReal) : Ideal.sin x ≠ ⊤ := by
  induction x with
  | bot => exact bot_ne_top
  | coe x => exact EReal.coe_ne_top _
  | top => exact bot_ne_top

/-- The constants as numbers. -/
theorem c2047 : Ideal.ofBits FTy.f32 0x44FFE000#32 = ((2047 : ℝ) : EReal) := by
  simp [Ideal.ofBits, Ideal.ieee]; rw [← EReal.coe_mul]; norm_num
theorem c2048 : Ideal.ofBits FTy.f32 0x45000000#32 = ((2048 : ℝ) : EReal) := by
  simp [Ideal.ofBits, Ideal.ieee]; rw [← EReal.coe_mul]; norm_num
theorem c2pi : ∃ r : ℝ, Ideal.ofBits FTy.f32 0x40C90FDB#32 = (r : EReal) := by
  simp [Ideal.ofBits, Ideal.ieee]
  exact ⟨_, (EReal.coe_mul _ _).symm⟩

/-- The first layer's row at a position. -/
def hid (p : EReal) (bd : Fin 16 → EReal) (t : Fin 64 → EReal) (c s : Fin 64 → Fin 16 → EReal) (b f : Fin 64 → EReal) (k : Fin 64) : EReal :=
  Ideal.sin (f k * (t k * Ideal.div p (Ideal.ofBits FTy.f32 0x44FFE000#32) + ∑ x, c k x * Ideal.cos (ang p bd x)
    + ∑ x, s k x * (0 - Ideal.sin (ang p bd x)) + b k))

/-- The second layer's row. -/
def hid2 (h : Fin 64 → EReal) (w : Fin 64 → Fin 64 → EReal) (b f : Fin 64 → EReal) (j : Fin 64) : EReal :=
  Ideal.sin (f j * (∑ k, w j k * h k + b j))

end Cert.Filter

namespace Cert.Kernel6Ideal.Value
open Cert.Kernel6Ideal Cert.Kernel6Ideal.Gen Cert.Filter

/-- The angles. -/
theorem pay3_apply (i : grid0.Coords) (bd : Vec Ideal S16x1 .f32) (k : Fin 16) (q : Fin 640) :
    k0_pay3 (F := Ideal) i bd (ix2 k q) = ang (k0_pay2 (F := Ideal) i (ix2 0 q)) (fun k => bd (ix2 k 0)) k := by
  pointwise [k0_pay3]
  rfl

/-- The first layer's first two parts. -/
theorem pay4_apply (i : grid0.Coords) (bd : Vec Ideal S16x1 .f32) (t : Vec Ideal S64x1 .f32) (w : Vec Ideal S64x16 .f32) (j : Fin 64) (q : Fin 640) :
    k0_pay4 (F := Ideal) i bd t w (ix2 j q) = t (ix2 j 0) * Ideal.div (k0_pay2 (F := Ideal) i (ix2 0 q)) (Ideal.ofBits FTy.f32 0x44FFE000#32)
      + d3 (fun k => w (ix2 j k)) (fun k => Ideal.cos (ang (k0_pay2 (F := Ideal) i (ix2 0 q)) (fun k => bd (ix2 k 0)) k)) := by
  pointwise [k0_pay4, pay3_apply]
  rfl

/-- The negated sines. -/
theorem pay6_apply (i : grid0.Coords) (bd : Vec Ideal S16x1 .f32) (k : Fin 16) (q : Fin 640) :
    k0_pay6 (F := Ideal) i bd (ix2 k q) = 0 - Ideal.sin (ang (k0_pay2 (F := Ideal) i (ix2 0 q)) (fun k => bd (ix2 k 0)) k) := by
  pointwise [k0_pay6, pay3_apply]

/-- The second layer before its sine. -/
theorem pay8_apply (a : FVec Ideal S64x640 .f32) (w : FVec Ideal S64x16 .f32) (s : FVec Ideal S16x640 .f32) (b1 f1 : Vec Ideal S64x1 .f32)
    (w2 : Vec Ideal S64x64 .f32) (b2 : Vec Ideal S64x1 .f32) (j : Fin 64) (q : Fin 640) :
    k0_pay8 (F := Ideal) a w s b1 f1 w2 b2 (ix2 j q) = d3 (fun k => w2 (ix2 j k)) (fun k => Ideal.sin (f1 (ix2 k 0) *
      (a (ix2 k q) + d3 (fun x => w (ix2 k x)) (fun x => s (ix2 x q)) + b1 (ix2 k 0)))) + b2 (ix2 j 0) := by
  pointwise [k0_pay8]
  rfl

/-- The second layer. -/
theorem pay9_apply (f : FVec Ideal S64x1 .f32) (h : FVec Ideal S64x640 .f32) (j : Fin 64) (q : Fin 640) :
    k0_pay9 (F := Ideal) f h (ix2 j q) = Ideal.sin (f (ix2 j 0) * h (ix2 j q)) := by
  pointwise [k0_pay9]

/-- The second layer at a position, from the blocks. -/
theorem hidden (i : grid0.Coords) (bd : Vec Ideal S16x1 .f32) (t : Vec Ideal S64x1 .f32) (c s : Vec Ideal S64x16 .f32) (b1 f1 : Vec Ideal S64x1 .f32)
    (w2 : Vec Ideal S64x64 .f32) (b2 f2 : Vec Ideal S64x1 .f32) (p : ℝ) (q : Fin 640) (hp : k0_pay2 (F := Ideal) i (ix2 0 q) = p) (j : Fin 64) :
    k0_pay9 (F := Ideal) (k0_pay7 f2) (k0_pay8 (k0_pay4 i bd t c) (k0_pay5 s) (k0_pay6 i bd) b1 f1 w2 b2) (ix2 j q)
      = hid2 (hid p (fun k => bd (ix2 k 0)) (fun k => t (ix2 k 0)) (fun k x => c (ix2 k x)) (fun k x => s (ix2 k x)) (fun k => b1 (ix2 k 0))
        (fun k => f1 (ix2 k 0))) (fun j k => w2 (ix2 j k)) (fun k => b2 (ix2 k 0)) (fun k => f2 (ix2 k 0)) j := by
  have e5 : ∀ k x, k0_pay5 (F := Ideal) s (ix2 k x) = s (ix2 k x) := by intro k x; pointwise [k0_pay5]
  have e6 : ∀ x, k0_pay6 (F := Ideal) i bd (ix2 x q) = 0 - Ideal.sin (ang p (fun k => bd (ix2 k 0)) x) := by intro x; rw [pay6_apply, hp]
  have e7 : k0_pay7 (F := Ideal) f2 (ix2 j 0) = f2 (ix2 j 0) := by pointwise [k0_pay7]
  have e1 : (fun k => Ideal.sin (f1 (ix2 k 0) * (k0_pay4 (F := Ideal) i bd t c (ix2 k q)
      + d3 (fun x => k0_pay5 (F := Ideal) s (ix2 k x)) (fun x => k0_pay6 (F := Ideal) i bd (ix2 x q)) + b1 (ix2 k 0))))
      = hid p (fun k => bd (ix2 k 0)) (fun k => t (ix2 k 0)) (fun k x => c (ix2 k x)) (fun k x => s (ix2 k x)) (fun k => b1 (ix2 k 0)) (fun k => f1 (ix2 k 0)) := by
    refine funext fun k => ?_
    rw [pay4_apply, hp, funext (e5 k), funext e6]
    exact ((((Alike.rfl' _).add (alike_d3 _ _)).add (alike_d3 _ _)).add (Alike.rfl' _)).sin _
  rw [pay9_apply, pay8_apply, e7, e1]
  exact ((alike_d3 _ _).add (Alike.rfl' _)).sin _

/-- The second layer is never the top. -/
theorem pay9_ne_top (f : FVec Ideal S64x1 .f32) (h : FVec Ideal S64x640 .f32) (j : Fin 64) (q : Fin 640) :
    k0_pay9 (F := Ideal) f h (ix2 j q) ≠ ⊤ := by
  rw [pay9_apply]; exact sin_ne_top _

/-- The second layer one lag on. -/
theorem pay10_apply (f : FVec Ideal S64x1 .f32) (h : FVec Ideal S64x640 .f32) (j : Fin 64) (r : Fin 512) :
    k0_pay10 (F := Ideal) f h (ix2 j r) = k0_pay9 (F := Ideal) f h (ix2 j ⟨r.val + 1, by omega⟩) := by
  pointwise [k0_pay10]
  exact congrArg (fun q => k0_pay9 (F := Ideal) f h (ix2 j q)) (Fin.ext (by show (r.val + 640 - 639) % 640 = r.val + 1; omega))

/-- The forward filters. -/
theorem pay14_apply (n : BitVec 32) (f : FVec Ideal S64x1 .f32) (h : FVec Ideal S64x640 .f32) (w : Vec Ideal S64x2048 .f32) (df : Vec Ideal S1x2048 .f32)
    (r : Fin 512) (d : Fin 2048) :
    k0_pay14 (F := Ideal) n f h w df (ix2 r d) = t3 (fun j : Fin 64 => k0_pay9 (F := Ideal) f h (ix2 j ⟨r.val, by omega⟩)) (fun j => w (ix2 j d))
      * Ideal.exp ((0 - Ideal.div (k0_pay11 (F := Ideal) n (ix2 r 0)) (Ideal.ofBits FTy.f32 0x44FFE000#32)) * size (df (ix2 0 d))) := by
  pointwise [k0_pay14]
  exact congrArg (· * Ideal.exp ((0 - Ideal.div (k0_pay11 (F := Ideal) n (ix2 r 0)) (Ideal.ofBits FTy.f32 0x44FFE000#32)) * size (df (ix2 0 d)))) (thirds (fun j => k0_pay9 (F := Ideal) f h (ix2 j ⟨r.val, by omega⟩)) (fun j => k0_pay9 (F := Ideal) f h (ix2 j ⟨r.val, by omega⟩) - k0_pay9 (F := Ideal) f h (ix2 j ⟨r.val, by omega⟩))
    (fun j => w (ix2 j d)) (fun j => w (ix2 j d) - w (ix2 j d)))

/-- The backward filters. -/
theorem pay16_apply (h : FVec Ideal S64x512 .f32) (p t : FVec Ideal S512x1 .f32) (d' : FVec Ideal S1x2048 .f32) (w : FVec Ideal S64x2048 .f32)
    (r : Fin 512) (d : Fin 2048) :
    k0_pay16 (F := Ideal) h p t d' w (ix2 r d) = if p (ix2 r 0) + 1 ≤ Ideal.ofBits FTy.f32 0x44FFE000#32 then
      t3 (fun j : Fin 64 => h (ix2 j r)) (fun j => w (ix2 j d)) * Ideal.exp ((0 - t (ix2 r 0)) * d' (ix2 0 d)) else 0 := by
  pointwise [k0_pay16]
  exact congrArg (fun z : EReal => if p (ix2 r 0) + 1 ≤ Ideal.ofBits FTy.f32 0x44FFE000#32 then z * Ideal.exp ((0 - t (ix2 r 0)) * d' (ix2 0 d)) else 0)
    (thirds (fun j => h (ix2 j r)) (fun j => h (ix2 j r) - h (ix2 j r)) (fun j => w (ix2 j d)) (fun j => w (ix2 j d) - w (ix2 j d)))

/-- A part of the sums of sizes. -/
theorem pay19_apply (h : FVec Ideal S64x512 .f32) (p t : FVec Ideal S512x1 .f32) (d' : FVec Ideal S1x2048 .f32) (a : FVec Ideal S512x2048 .f32) (w : FVec Ideal S64x2048 .f32)
    (d : Fin 2048) :
    k0_pay19 (F := Ideal) h p t d' a w (ix2 0 d) = ∑ r, size (a (ix2 r d)) + ∑ r, size (k0_pay16 (F := Ideal) h p t d' w (ix2 r d)) := by
  pointwise [k0_pay19]
  rfl

/-- The first point's sums, with the backward filters at lag zero. -/
theorem pay20_apply (g : FVec Ideal S64x640 .f32) (h : FVec Ideal S64x512 .f32) (p t : FVec Ideal S512x1 .f32) (d' : FVec Ideal S1x2048 .f32) (a : FVec Ideal S512x2048 .f32) (w : FVec Ideal S64x2048 .f32)
    (u : Vec Ideal S64x2048 .f32) (d : Fin 2048) :
    k0_pay20 (F := Ideal) g h p t d' a w u (ix2 0 d) = k0_pay19 (F := Ideal) h p t d' a w (ix2 0 d)
      + size (t3 (fun j : Fin 64 => g (ix2 j 0)) (fun j => u (ix2 j d))) := by
  pointwise [k0_pay20]
  exact congrArg (fun z => k0_pay19 (F := Ideal) h p t d' a w (ix2 0 d) + size z) (thirds (fun j => g (ix2 j 0)) (fun j => g (ix2 j 0) - g (ix2 j 0))
    (fun j => u (ix2 j d)) (fun j => u (ix2 j d) - u (ix2 j d)))

/-- A later point's sums. -/
theorem pay1_apply (a : FVec Ideal S1x2048 .f32) (x : Vec Ideal S1x2048 .f32) (d : Fin 2048) :
    k0_pay1 (F := Ideal) a x (ix2 0 d) = x (ix2 0 d) + a (ix2 0 d) := by
  pointwise [k0_pay1]

/-- The position of a row or column of a block. -/
theorem toInt_pos (t : ℕ) (ht : t < 4) (q : ℕ) (hq : q < 640) : (BitVec.ofNat 32 t * 512#32 + BitVec.ofNat 32 q).toInt = ((t * 512 + q : ℕ) : ℤ) := by
  rw [show BitVec.ofNat 32 t * 512#32 + BitVec.ofNat 32 q = BitVec.ofNat 32 (t * 512 + q) from by
    rw [show (512#32 : BitVec 32) = BitVec.ofNat 32 512 from rfl, ← BitVec.ofNat_mul, ← BitVec.ofNat_add]]
  rw [BitVec.toInt_eq_toNat_of_lt (by simp; omega)]
  simp; omega

/-- A column's lag. -/
theorem pay2_apply (i : grid0.Coords) (q : Fin 640) : k0_pay2 (F := Ideal) i (ix2 0 q) = ((((i 0).val * 512 + q.val : ℕ) : ℝ) : EReal) := by
  pointwise [k0_pay2]
  exact (congrArg (fun z : ℤ => ((z : ℝ) : EReal)) (toInt_pos _ (i 0).isLt q.val (by omega))).trans (by push_cast; rfl)

/-- A row's lag. -/
theorem pay11_apply (i : grid0.Coords) (r : Fin 512) : k0_pay11 (F := Ideal) (BitVec.ofNat 32 (i 0).val) (ix2 r 0) = ((((i 0).val * 512 + r.val : ℕ) : ℝ) : EReal) := by
  pointwise [k0_pay11]
  exact (congrArg (fun z : ℤ => ((z : ℝ) : EReal)) (toInt_pos _ (i 0).isLt r.val (by omega))).trans (by push_cast; rfl)

end Cert.Kernel6Ideal.Value
-- ==== Proof.Filter.lean ====
/- The filter network: its results, read on both sides from the weights. -/
module
public import proofs.«01_k».proof.Proof.Gen.Kernel6Ideal.Value
public import proofs.«01_k».proof.Proof.FilterPay
public import Idealize.ShloMosaic.Lib.Claim
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

namespace Cert.Kernel6Ideal.Value
open Cert.Kernel6Ideal Cert.Kernel6Ideal.Gen Cert.Filter
variable (m : (ℓ : Loc nD τ sig) → Buf (Elt Ideal) ℓ)

/-- The windows' block indices at every grid point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![t.val, 0] ∧ win0_14.index t = ![t.val, 0] ∧ win0_15.index t = ![0, 0] ∧ (grid0.coords t 0).val = t.val :=
  (by decide +kernel : ∀ t : Fin grid0.N, _)

/-- The hidden row at a position, from the arrays that the region finds. -/
def col (c : Dev nD) (p : EReal) : Fin 64 → EReal :=
  hid2 (hid p (fun k => V m c main_v15 (ix2 k 0)) (fun k => V m c main_v17 (ix2 k 0)) (fun k x => V m c main_v19 (ix2 k x))
    (fun k x => V m c main_v21 (ix2 k x)) (fun k => V m c main_v22 (ix2 k 0)) (fun k => V m c main_v23 (ix2 k 0)))
    (fun j k => V m c main_v24 (ix2 j k)) (fun k => V m c main_v25 (ix2 k 0)) (fun k => V m c main_v26 (ix2 k 0))

/-- Window 0 is its whole array. -/
theorem iblk0 (c : Dev nD) (t : Fin cfg0.N) : (iblk m c 0 t : Vec Ideal S16x1 .f32) = V m c main_v15 := by
  funext y
  obtain ⟨r, d, hx⟩ : ∃ r d, y = ix2 r d := ⟨_, _, eq_ix2 y⟩
  subst hx
  blk_point [iblk, idx t]

/-- Window 1 is its whole array. -/
theorem iblk1 (c : Dev nD) (t : Fin cfg0.N) : (iblk m c 1 t : Vec Ideal S64x1 .f32) = V m c main_v17 := by
  funext y
  obtain ⟨r, d, hx⟩ : ∃ r d, y = ix2 r d := ⟨_, _, eq_ix2 y⟩
  subst hx
  blk_point [iblk, idx t]

/-- Window 2 is its whole array. -/
theorem iblk2 (c : Dev nD) (t : Fin cfg0.N) : (iblk m c 2 t : Vec Ideal S64x16 .f32) = V m c main_v19 := by
  funext y
  obtain ⟨r, d, hx⟩ : ∃ r d, y = ix2 r d := ⟨_, _, eq_ix2 y⟩
  subst hx
  blk_point [iblk, idx t]

/-- Window 3 is its whole array. -/
theorem iblk3 (c : Dev nD) (t : Fin cfg0.N) : (iblk m c 3 t : Vec Ideal S64x16 .f32) = V m c main_v21 := by
  funext y
  obtain ⟨r, d, hx⟩ : ∃ r d, y = ix2 r d := ⟨_, _, eq_ix2 y⟩
  subst hx
  blk_point [iblk, idx t]

/-- Window 4 is its whole array. -/
theorem iblk4 (c : Dev nD) (t : Fin cfg0.N) : (iblk m c 4 t : Vec Ideal S64x1 .f32) = V m c main_v22 := by
  funext y
  obtain ⟨r, d, hx⟩ : ∃ r d, y = ix2 r d := ⟨_, _, eq_ix2 y⟩
  subst hx
  blk_point [iblk, idx t]

/-- Window 5 is its whole array. -/
theorem iblk5 (c : Dev nD) (t : Fin cfg0.N) : (iblk m c 5 t : Vec Ideal S64x1 .f32) = V m c main_v23 := by
  funext y
  obtain ⟨r, d, hx⟩ : ∃ r d, y = ix2 r d := ⟨_, _, eq_ix2 y⟩
  subst hx
  blk_point [iblk, idx t]

/-- Window 6 is its whole array. -/
theorem iblk6 (c : Dev nD) (t : Fin cfg0.N) : (iblk m c 6 t : Vec Ideal S64x64 .f32) = V m c main_v24 := by
  funext y
  obtain ⟨r, d, hx⟩ : ∃ r d, y = ix2 r d := ⟨_, _, eq_ix2 y⟩
  subst hx
  blk_point [iblk, idx t]

/-- Window 7 is its whole array. -/
theorem iblk7 (c : Dev nD) (t : Fin cfg0.N) : (iblk m c 7 t : Vec Ideal S64x1 .f32) = V m c main_v25 := by
  funext y
  obtain ⟨r, d, hx⟩ : ∃ r d, y = ix2 r d := ⟨_, _, eq_ix2 y⟩
  subst hx
  blk_point [iblk, idx t]

/-- Window 8 is its whole array. -/
theorem iblk8 (c : Dev nD) (t : Fin cfg0.N) : (iblk m c 8 t : Vec Ideal S64x1 .f32) = V m c main_v26 := by
  funext y
  obtain ⟨r, d, hx⟩ : ∃ r d, y = ix2 r d := ⟨_, _, eq_ix2 y⟩
  subst hx
  blk_point [iblk, idx t]

/-- Window 9 is its whole array. -/
theorem iblk9 (c : Dev nD) (t : Fin cfg0.N) : (iblk m c 9 t : Vec Ideal S64x2048 .f32) = V m c main_v4 := by
  funext y
  obtain ⟨r, d, hx⟩ : ∃ r d, y = ix2 r d := ⟨_, _, eq_ix2 y⟩
  subst hx
  blk_point [iblk, idx t]

/-- Window 10 is its whole array. -/
theorem iblk10 (c : Dev nD) (t : Fin cfg0.N) : (iblk m c 10 t : Vec Ideal S64x2048 .f32) = V m c main_v7 := by
  funext y
  obtain ⟨r, d, hx⟩ : ∃ r d, y = ix2 r d := ⟨_, _, eq_ix2 y⟩
  subst hx
  blk_point [iblk, idx t]

/-- Window 11 is its whole array. -/
theorem iblk11 (c : Dev nD) (t : Fin cfg0.N) : (iblk m c 11 t : Vec Ideal S1x2048 .f32) = V m c main_v10 := by
  funext y
  obtain ⟨r, d, hx⟩ : ∃ r d, y = ix2 r d := ⟨_, _, eq_ix2 y⟩
  subst hx
  blk_point [iblk, idx t]

/-- Window 12 is its whole array. -/
theorem iblk12 (c : Dev nD) (t : Fin cfg0.N) : (iblk m c 12 t : Vec Ideal S1x2048 .f32) = V m c main_v13 := by
  funext y
  obtain ⟨r, d, hx⟩ : ∃ r d, y = ix2 r d := ⟨_, _, eq_ix2 y⟩
  subst hx
  blk_point [iblk, idx t]

/-- The last layer's weights that the region finds are numbers. -/
def Numbers (c : Dev nD) : Prop :=
  (∀ j k, IsNum (V m c main_v4 (ix2 j k))) ∧ (∀ j k, IsNum (V m c main_v7 (ix2 j k)))

/-- A lag's entry of the forward filters, from the arrays that the region finds. -/
def fwdAt (c : Dev nD) (n : ℕ) (d : Fin 2048) : EReal :=
  tap (col m c ((n : ℝ) : EReal)) (fun j => V m c main_v4 (ix2 j d)) (Ideal.div ((n : ℝ) : EReal) (Ideal.ofBits FTy.f32 0x44FFE000#32))
    (size (V m c main_v10 (ix2 0 d)))

/-- A lag's entry of the backward filters, from the arrays that the region finds. -/
def bwdAt (c : Dev nD) (n : ℕ) (d : Fin 2048) : EReal :=
  tap (col m c ((n : ℝ) : EReal)) (fun j => V m c main_v7 (ix2 j d)) (Ideal.div ((n : ℝ) : EReal) (Ideal.ofBits FTy.f32 0x44FFE000#32))
    (size (V m c main_v13 (ix2 0 d)))

/-- The backward filters from lag one on, zero past the end. -/
def bwdRow (c : Dev nD) (n : ℕ) (d : Fin 2048) : EReal := if n + 1 ≤ 2047 then bwdAt m c (n + 1) d else 0

/-- The second layer's block at a point. -/
abbrev h2 (c : Dev nD) (i : grid0.Coords) : FVec Ideal S64x640 .f32 :=
  k0_pay8 (k0_pay4 i (V m c main_v15) (V m c main_v17) (V m c main_v19)) (k0_pay5 (V m c main_v21)) (k0_pay6 i (V m c main_v15)) (V m c main_v22)
    (V m c main_v23) (V m c main_v24) (V m c main_v25)

/-- The hidden row at a column of a point's block. -/
theorem hidden_at (c : Dev nD) (i : grid0.Coords) (q : Fin 640) (j : Fin 64) :
    k0_pay9 (F := Ideal) (k0_pay7 (V m c main_v26)) (h2 m c i) (ix2 j q) = col m c ((((i 0).val * 512 + q.val : ℕ) : ℝ) : EReal) j :=
  hidden i _ _ _ _ _ _ _ _ _ _ q (pay2_apply i q) j

/-- The forward filters' block at an index. -/
theorem fwd_block (c : Dev nD) (hn : Numbers m c) (i : grid0.Coords) (r : Fin 512) (d : Fin 2048) :
    k0_pay14 (F := Ideal) (BitVec.ofNat 32 (i 0).val) (k0_pay7 (V m c main_v26)) (h2 m c i) (V m c main_v4) (V m c main_v10) (ix2 r d)
      = fwdAt m c ((i 0).val * 512 + r.val) d := by
  rw [pay14_apply, t3_eq _ _ (fun j => hn.1 j d) (fun j => pay9_ne_top _ _ _ _), pay11_apply]
  unfold fwdAt tap
  refine congrArg (· * _) (Finset.sum_congr rfl fun j _ => congrArg (· * _) ?_)
  exact hidden_at m c i ⟨r.val, by omega⟩ j

/-- A position moved on by one. -/
theorem pos_succ (n : ℕ) : ((n : ℝ) : EReal) + 1 = (((n + 1 : ℕ) : ℝ) : EReal) := by
  rw [show (1 : EReal) = ((1 : ℝ) : EReal) from rfl, ← EReal.coe_add]; push_cast; rfl

/-- The backward filters' block at an index. -/
theorem bwd_block (c : Dev nD) (hn : Numbers m c) (i : grid0.Coords) (r : Fin 512) (d : Fin 2048) :
    k0_pay16 (F := Ideal) (k0_pay10 (k0_pay7 (V m c main_v26)) (h2 m c i)) (k0_pay11 (BitVec.ofNat 32 (i 0).val)) (k0_pay12 (BitVec.ofNat 32 (i 0).val))
      (k0_pay13 (V m c main_v13)) (k0_pay15 (V m c main_v7)) (ix2 r d) = bwdRow m c ((i 0).val * 512 + r.val) d := by
  have e15 : ∀ j, k0_pay15 (F := Ideal) (V m c main_v7) (ix2 j d) = V m c main_v7 (ix2 j d) := by intro j; pointwise [k0_pay15]
  have e13 : k0_pay13 (F := Ideal) (V m c main_v13) (ix2 0 d) = size (V m c main_v13 (ix2 0 d)) := by pointwise [k0_pay13]; rfl
  have e12 : k0_pay12 (F := Ideal) (BitVec.ofNat 32 (i 0).val) (ix2 r 0)
      = Ideal.div ((((i 0).val * 512 + r.val + 1 : ℕ) : ℝ) : EReal) (Ideal.ofBits FTy.f32 0x44FFE000#32) := by
    rw [← pos_succ, ← pay11_apply]; pointwise [k0_pay12]
  rw [pay16_apply, e13, e12, pay11_apply, pos_succ, c2047]
  unfold bwdRow
  refine if_congr (by rw [EReal.coe_le_coe_iff]; exact_mod_cast Iff.rfl) ?_ rfl
  rw [t3_eq _ _ (fun j => by rw [e15]; exact hn.2 j d) (fun j => by rw [pay10_apply]; exact pay9_ne_top _ _ _ _)]
  unfold bwdAt tap
  rw [c2047]
  refine congrArg (· * _) (Finset.sum_congr rfl fun j _ => ?_)
  rw [e15, pay10_apply]
  exact congrArg (· * _) (hidden_at m c i ⟨r.val + 1, by omega⟩ j)

/-- The backward filters at lag zero, whose decay is one. -/
theorem zero_block (c : Dev nD) (hn : Numbers m c) (i : grid0.Coords) (hi : (i 0).val = 0) (d : Fin 2048) :
    t3 (fun j : Fin 64 => k0_pay9 (F := Ideal) (k0_pay7 (V m c main_v26)) (h2 m c i) (ix2 j 0)) (fun j => V m c main_v7 (ix2 j d)) = bwdAt m c 0 d := by
  rw [t3_eq _ _ (fun j => hn.2 j d) (fun j => pay9_ne_top _ _ _ _)]
  unfold bwdAt tap
  have h0 : (((0 : ℕ) : ℝ) : EReal) = 0 := by simp
  rw [h0, c2047, Ideal.div, if_neg (by simp), zero_mul, sub_zero, zero_mul, show Ideal.exp 0 = 1 from by
    rw [show (0 : EReal) = ((0 : ℝ) : EReal) from rfl]; show ((Real.exp 0 : ℝ) : EReal) = 1; simp, mul_one]
  refine Finset.sum_congr rfl fun j _ => congrArg (· * _) ?_
  rw [hidden_at m c i 0 j, hi, ← h0]; rfl

/-- The forward filters after the run. -/
def fwd (c : Dev nD) : S2048x2048.Idx → EReal := fun i => fwdAt m c (i 0).val (i 1)

/-- The backward filters after the run. -/
def bwd (c : Dev nD) : S2048x2048.Idx → EReal := fun i => bwdRow m c (i 0).val (i 1)

/-- A point's part of the sums of sizes. -/
def part (c : Dev nD) (t : ℕ) (d : Fin 2048) : EReal :=
  ∑ r : Fin 512, size (fwdAt m c (t * 512 + r.val) d) + ∑ r : Fin 512, size (bwdRow m c (t * 512 + r.val) d)

/-- The sums of sizes after the run. -/
def nrm (c : Dev nD) : S1x2048.Idx → EReal := fun i =>
  part m c 0 (i 1) + size (bwdAt m c 0 (i 1)) + part m c 1 (i 1) + part m c 2 (i 1) + part m c 3 (i 1)

/-- A point's part, from the blocks. -/
theorem part_block (c : Dev nD) (hn : Numbers m c) (i : grid0.Coords) (d : Fin 2048) :
    k0_pay19 (F := Ideal) (k0_pay10 (k0_pay7 (V m c main_v26)) (h2 m c i)) (k0_pay11 (BitVec.ofNat 32 (i 0).val)) (k0_pay12 (BitVec.ofNat 32 (i 0).val))
      (k0_pay13 (V m c main_v13)) (k0_pay14 (F := Ideal) (BitVec.ofNat 32 (i 0).val) (k0_pay7 (V m c main_v26)) (h2 m c i) (V m c main_v4) (V m c main_v10))
      (k0_pay15 (V m c main_v7)) (ix2 0 d) = part m c (i 0).val d := by
  rw [pay19_apply]
  unfold part
  exact congrArg₂ _ (Finset.sum_congr rfl fun r _ => congrArg size (fwd_block m c hn i r d)) (Finset.sum_congr rfl fun r _ => congrArg size (bwd_block m c hn i r d))

theorem N4 : cfg0.grid.N = 4 := by decide +kernel

/-- What each point leaves of the forward filters. -/
theorem out13 (c : Dev nD) (hn : Numbers m c) (t : Fin cfg0.N) (r : Fin 512) (d : Fin 2048) :
    (outsAt0 m c t.val t.isLt).1 (ix2 r d) = fwdAt m c (t.val * 512 + r.val) d := by
  have e : ∀ i : grid0.Coords, i = grid0.coords t → (k0_pay17 (F := Ideal) (k0_pay14 (F := Ideal) (BitVec.ofNat 32 (i 0).val) (k0_pay7 (V m c main_v26)) (h2 m c i) (V m c main_v4) (V m c main_v10))) (ix2 r d)
      = fwdAt m c (t.val * 512 + r.val) d := by
    intro i hi
    pointwise [k0_pay17]
    rw [fwd_block m c hn, hi, (idx t).2.2.2.2.2.2.2.2.2.2.2.2.2.2.2.2]
  by_cases h0 : t.val % 4 = 0
  · have h1 : ¬ 1 ≤ t.val := by have : t.val < 4 := lt_of_lt_of_eq t.isLt N4; omega
    rw [outsAt0_A m c t h0 h1]; frame_out
    rw [iblk0, iblk1, iblk2, iblk3, iblk4, iblk5, iblk6, iblk7, iblk8, iblk9, iblk11]
    exact e _ rfl
  · have h1 : 1 ≤ t.val := by omega
    rw [outsAt0_B m c t h0 h1]; frame_out
    rw [iblk0, iblk1, iblk2, iblk3, iblk4, iblk5, iblk6, iblk7, iblk8, iblk9, iblk11]
    exact e _ rfl

/-- What each point leaves of the backward filters. -/
theorem out14 (c : Dev nD) (hn : Numbers m c) (t : Fin cfg0.N) (r : Fin 512) (d : Fin 2048) :
    (outsAt0 m c t.val t.isLt).2.1 (ix2 r d) = bwdRow m c (t.val * 512 + r.val) d := by
  have e : ∀ i : grid0.Coords, i = grid0.coords t → k0_pay18 (F := Ideal) (k0_pay10 (k0_pay7 (V m c main_v26)) (h2 m c i)) (k0_pay11 (BitVec.ofNat 32 (i 0).val)) (k0_pay12 (BitVec.ofNat 32 (i 0).val))
      (k0_pay13 (V m c main_v13)) (k0_pay15 (V m c main_v7)) (ix2 r d) = bwdRow m c (t.val * 512 + r.val) d := by
    intro i hi
    pointwise [k0_pay18]
    rw [bwd_block m c hn, hi, (idx t).2.2.2.2.2.2.2.2.2.2.2.2.2.2.2.2]
  by_cases h0 : t.val % 4 = 0
  · have h1 : ¬ 1 ≤ t.val := by have : t.val < 4 := lt_of_lt_of_eq t.isLt N4; omega
    rw [outsAt0_A m c t h0 h1]; frame_out
    rw [iblk0, iblk1, iblk2, iblk3, iblk4, iblk5, iblk6, iblk7, iblk8, iblk10, iblk12]
    exact e _ rfl
  · have h1 : 1 ≤ t.val := by omega
    rw [outsAt0_B m c t h0 h1]; frame_out
    rw [iblk0, iblk1, iblk2, iblk3, iblk4, iblk5, iblk6, iblk7, iblk8, iblk10, iblk12]
    exact e _ rfl

/-- What the first point leaves of the sums. -/
theorem out15_A (c : Dev nD) (hn : Numbers m c) (t : Fin cfg0.N) (h0 : t.val = 0) (d : Fin 2048) :
    (outsAt0 m c t.val t.isLt).2.2 (ix2 0 d) = part m c 0 d + size (bwdAt m c 0 d) := by
  rw [outsAt0_A m c t (by omega) (by omega)]; frame_out
  rw [iblk0, iblk1, iblk2, iblk3, iblk4, iblk5, iblk6, iblk7, iblk8, iblk9, iblk10, iblk11, iblk12]
  have hi : (grid0.coords t 0).val = 0 := (idx t).2.2.2.2.2.2.2.2.2.2.2.2.2.2.2.2.trans h0
  refine (pay20_apply _ _ _ _ _ _ _ _ d).trans ?_
  exact congrArg₂ _ ((part_block m c hn _ d).trans (by rw [hi])) (congrArg size (zero_block m c hn _ hi d))

/-- What a later point leaves of the sums. -/
theorem out15_B (c : Dev nD) (hn : Numbers m c) (t : Fin cfg0.N) (h1 : 1 ≤ t.val) (d : Fin 2048) :
    (outsAt0 m c t.val t.isLt).2.2 (ix2 0 d)
      = (outsAt0 m c (t.val - 1) (Nat.lt_of_le_of_lt (Nat.sub_le _ _) t.isLt)).2.2 (ix2 0 d) + part m c t.val d := by
  rw [outsAt0_B m c t (by have : t.val < 4 := lt_of_lt_of_eq t.isLt N4; omega) h1]; frame_out
  rw [iblk0, iblk1, iblk2, iblk3, iblk4, iblk5, iblk6, iblk7, iblk8, iblk9, iblk10, iblk11, iblk12]
  have hi : (grid0.coords t 0).val = t.val := (idx t).2.2.2.2.2.2.2.2.2.2.2.2.2.2.2.2
  refine (pay1_apply _ _ d).trans ?_
  exact congrArg (_ + ·) ((part_block m c hn _ d).trans (by rw [hi]))

/-- The last point leaves the whole sums. -/
theorem out15_last (c : Dev nD) (hn : Numbers m c) (t : Fin cfg0.N) (h3 : t.val = 3) (d : Fin 2048) :
    (outsAt0 m c t.val t.isLt).2.2 (ix2 0 d) = nrm m c (ix2 0 d) := by
  have l : ∀ n, n < 4 → n < cfg0.N := fun n h => lt_of_lt_of_eq h N4.symm
  have e3 := out15_B m c hn ⟨3, l 3 (by omega)⟩ (by simp) d
  have e2 := out15_B m c hn ⟨2, l 2 (by omega)⟩ (by simp) d
  have e1 := out15_B m c hn ⟨1, l 1 (by omega)⟩ (by simp) d
  have e0 := out15_A m c hn ⟨0, l 0 (by omega)⟩ rfl d
  obtain ⟨n, hlt⟩ := t
  obtain rfl : n = 3 := h3
  simp only [Nat.reduceSub] at e3 e2 e1
  rw [e3, e2, e1, e0]
  rfl

/-- The forward filters' array after the run. -/
theorem final13 (c : Dev nD) (hn : Numbers m c) : (dats m 0 c).arrAt 13 (cfgs 0).N = fwd m c := by
  refine (dats m 0 c).arrAt_eq_of_covers 13 _ (by decide +kernel) fun t _ y => ?_
  blk_simp
  rw [after0_13]
  obtain ⟨r, d, hx⟩ : ∃ r d, y = ix2 r d := ⟨_, _, eq_ix2 y⟩
  subst hx
  refine (out13 m c hn t r d).trans ?_
  unfold fwd
  refine congrArg₂ (fwdAt m c) ?_ (Fin.ext ?_)
  all_goals blk_simp [idx t]

/-- The backward filters' array after the run. -/
theorem final14 (c : Dev nD) (hn : Numbers m c) : (dats m 0 c).arrAt 14 (cfgs 0).N = bwd m c := by
  refine (dats m 0 c).arrAt_eq_of_covers 14 _ (by decide +kernel) fun t _ y => ?_
  blk_simp
  rw [after0_14]
  obtain ⟨r, d, hx⟩ : ∃ r d, y = ix2 r d := ⟨_, _, eq_ix2 y⟩
  subst hx
  refine (out14 m c hn t r d).trans ?_
  unfold bwd
  refine congrArg₂ (bwdRow m c) ?_ (Fin.ext ?_)
  all_goals blk_simp [idx t]

theorem flush15 : ∀ t : Fin cfg0.N, win0_15.flush t = true → t.val = 3 :=
  (by decide +kernel : ∀ t : Fin grid0.N, _)

/-- The sums' array after the run. -/
theorem final15 (c : Dev nD) (hn : Numbers m c) : (dats m 0 c).arrAt 15 (cfgs 0).N = nrm m c := by
  refine (dats m 0 c).arrAt_eq_of_covers 15 _ (by decide +kernel) fun t ht y => ?_
  blk_simp
  rw [after0_15]
  obtain ⟨r, d, hx⟩ : ∃ r d, y = ix2 r d := ⟨_, _, eq_ix2 y⟩
  subst hx
  obtain rfl : r = 0 := Subsingleton.elim _ _
  refine (out15_last m c hn t (flush15 t ht) d).trans ?_
  refine congrArg (nrm m c) ?_
  refine (eq_ix2 _).trans ?_ |>.symm
  refine congrArg₂ ix2 (Subsingleton.elim _ _) (Fin.ext ?_)
  blk_simp [idx t]

end Cert.Kernel6Ideal.Value
-- ==== Proof.FilterHost.lean ====
/- The filter network's arrays that the region finds, read from the arguments. -/
module
public import proofs.«01_k».proof.Proof.Filter
public import proofs.«01_k».proof.Proof.Gen.Reference6Ideal.Read
@[expose] public section
set_option maxRecDepth 16384
noncomputable section
open Idealize.ShloMosaic Idealize.ShloMosaic.TcCoe Idealize.SL.Sem

namespace Cert.Kernel6Ideal.Value
open Cert.Kernel6Ideal Cert.Kernel6Ideal.Gen Cert.Filter
variable (m : (ℓ : Loc nD τ sig) → Buf (Elt Ideal) ℓ)

/-- The bands. -/
theorem V15 (c : Dev nD) (k : Fin 16) : V m c main_v15 (ix2 k 0) = Cert.Reference6Ideal.Read.val_main_v7 (F := Ideal) (ix1 k) := by
  have e : V m c main_v15 = shapeCast S16x1 (Cert.Reference6Ideal.Read.val_main_v7 (F := Ideal)) shapeCasts_S16_S16x1 := by
    unfold V
    sl_kernel_rfl
  rw [e]; pointwise

/-- The first layer's weights: the time's row. -/
theorem V17 (c : Dev nD) (k : Fin 64) : V m c main_v17 (ix2 k 0) = m ((c : Thread nD τ).loc main_arg0) (ix2 (0 : Fin 33) k) := by
  have e : V m c main_v17 = transpose S64x1 [1, 0] (extractStridedSlice S1x64 ![0, 0] (m ((c : Thread nD τ).loc main_arg0) : Vec Ideal S33x64 .f32) slices_S33x64_S1x64_0_0) transposes_S1x64_S64x1_1_0 := by
    unfold V
    sl_kernel_rfl
  rw [e]; pointwise

/-- The cosines' rows. -/
theorem V19 (c : Dev nD) (k : Fin 64) (x : Fin 16) : V m c main_v19 (ix2 k x) = m ((c : Thread nD τ).loc main_arg0) (ix2 (⟨1 + x.val, by omega⟩ : Fin 33) k) := by
  have e : V m c main_v19 = transpose S64x16 [1, 0] (extractStridedSlice S16x64 ![1, 0] (m ((c : Thread nD τ).loc main_arg0) : Vec Ideal S33x64 .f32) slices_S33x64_S16x64_1_0) transposes_S16x64_S64x16_1_0 := by
    unfold V
    sl_kernel_rfl
  rw [e]; pointwise

/-- The sines' rows. -/
theorem V21 (c : Dev nD) (k : Fin 64) (x : Fin 16) : V m c main_v21 (ix2 k x) = m ((c : Thread nD τ).loc main_arg0) (ix2 (⟨17 + x.val, by omega⟩ : Fin 33) k) := by
  have e : V m c main_v21 = transpose S64x16 [1, 0] (extractStridedSlice S16x64 ![17, 0] (m ((c : Thread nD τ).loc main_arg0) : Vec Ideal S33x64 .f32) slices_S33x64_S16x64_17_0) transposes_S16x64_S64x16_1_0 := by
    unfold V
    sl_kernel_rfl
  rw [e]; pointwise

/-- The first offsets. -/
theorem V22 (c : Dev nD) (k : Fin 64) : V m c main_v22 (ix2 k 0) = m ((c : Thread nD τ).loc main_arg1) (ix1 k) := by
  have e : V m c main_v22 = shapeCast S64x1 (m ((c : Thread nD τ).loc main_arg1) : Vec Ideal S64 .f32) shapeCasts_S64_S64x1 := by
    unfold V
    sl_kernel_rfl
  rw [e]; pointwise

/-- The first frequencies. -/
theorem V23 (c : Dev nD) (k : Fin 64) : V m c main_v23 (ix2 k 0) = m ((c : Thread nD τ).loc main_arg2) (ix1 k) := by
  have e : V m c main_v23 = shapeCast S64x1 (m ((c : Thread nD τ).loc main_arg2) : Vec Ideal S64 .f32) shapeCasts_S64_S64x1 := by
    unfold V
    sl_kernel_rfl
  rw [e]; pointwise

/-- The second layer's weights. -/
theorem V24 (c : Dev nD) (j k : Fin 64) : V m c main_v24 (ix2 j k) = m ((c : Thread nD τ).loc main_arg3) (ix2 k j) := by
  have e : V m c main_v24 = transpose S64x64 [1, 0] (m ((c : Thread nD τ).loc main_arg3) : Vec Ideal S64x64 .f32) transposes_S64x64_S64x64_1_0 := by
    unfold V
    sl_kernel_rfl
  rw [e]; pointwise

/-- The second offsets. -/
theorem V25 (c : Dev nD) (k : Fin 64) : V m c main_v25 (ix2 k 0) = m ((c : Thread nD τ).loc main_arg4) (ix1 k) := by
  have e : V m c main_v25 = shapeCast S64x1 (m ((c : Thread nD τ).loc main_arg4) : Vec Ideal S64 .f32) shapeCasts_S64_S64x1 := by
    unfold V
    sl_kernel_rfl
  rw [e]; pointwise

/-- The second frequencies. -/
theorem V26 (c : Dev nD) (k : Fin 64) : V m c main_v26 (ix2 k 0) = m ((c : Thread nD τ).loc main_arg5) (ix1 k) := by
  have e : V m c main_v26 = shapeCast S64x1 (m ((c : Thread nD τ).loc main_arg5) : Vec Ideal S64 .f32) shapeCasts_S64_S64x1 := by
    unfold V
    sl_kernel_rfl
  rw [e]; pointwise

/-- The forward filters' weights. -/
theorem V4 (c : Dev nD) (j : Fin 64) (d : Fin 2048) : V m c main_v4 (ix2 j d)
    = m ((c : Thread nD τ).loc main_arg6) (ix2 j (⟨d.val / 1024 * 2048 + d.val % 1024, by omega⟩ : Fin 4096)) := by
  have e : V m c main_v4 = shapeCast S64x2048 (shapeCast S64x2x1024 (extractStridedSlice S64x2x1x1024 ![0, 0, 0, 0]
      (shapeCast S64x2x2x1024 (m ((c : Thread nD τ).loc main_arg6) : Vec Ideal S64x4096 .f32) shapeCasts_S64x4096_S64x2x2x1024)
      slices_S64x2x2x1024_S64x2x1x1024_0_0_0_0) shapeCasts_S64x2x1x1024_S64x2x1024) shapeCasts_S64x2x1024_S64x2048 := by
    unfold V
    sl_kernel_rfl
  rw [e]; pointwise

/-- The backward filters' weights. -/
theorem V7 (c : Dev nD) (j : Fin 64) (d : Fin 2048) : V m c main_v7 (ix2 j d)
    = m ((c : Thread nD τ).loc main_arg6) (ix2 j (⟨d.val / 1024 * 2048 + 1024 + d.val % 1024, by omega⟩ : Fin 4096)) := by
  have e : V m c main_v7 = shapeCast S64x2048 (shapeCast S64x2x1024 (extractStridedSlice S64x2x1x1024 ![0, 0, 1, 0]
      (shapeCast S64x2x2x1024 (m ((c : Thread nD τ).loc main_arg6) : Vec Ideal S64x4096 .f32) shapeCasts_S64x4096_S64x2x2x1024)
      slices_S64x2x2x1024_S64x2x1x1024_0_0_1_0) shapeCasts_S64x2x1x1024_S64x2x1024) shapeCasts_S64x2x1024_S64x2048 := by
    unfold V
    sl_kernel_rfl
  rw [e]; pointwise

/-- The forward filters' decay. -/
theorem V10 (c : Dev nD) (d : Fin 2048) : V m c main_v10 (ix2 0 d)
    = m ((c : Thread nD τ).loc main_arg7) (ix1 (⟨d.val / 1024 * 2048 + d.val % 1024, by omega⟩ : Fin 4096)) := by
  have e : V m c main_v10 = shapeCast S1x2048 (shapeCast S2x1024 (extractStridedSlice S2x1x1024 ![0, 0, 0]
      (shapeCast S2x2x1024 (m ((c : Thread nD τ).loc main_arg7) : Vec Ideal S4096 .f32) shapeCasts_S4096_S2x2x1024)
      slices_S2x2x1024_S2x1x1024_0_0_0) shapeCasts_S2x1x1024_S2x1024) shapeCasts_S2x1024_S1x2048 := by
    unfold V
    sl_kernel_rfl
  rw [e]; pointwise

/-- The backward filters' decay. -/
theorem V13 (c : Dev nD) (d : Fin 2048) : V m c main_v13 (ix2 0 d)
    = m ((c : Thread nD τ).loc main_arg7) (ix1 (⟨d.val / 1024 * 2048 + 1024 + d.val % 1024, by omega⟩ : Fin 4096)) := by
  have e : V m c main_v13 = shapeCast S1x2048 (shapeCast S2x1024 (extractStridedSlice S2x1x1024 ![0, 1, 0]
      (shapeCast S2x2x1024 (m ((c : Thread nD τ).loc main_arg7) : Vec Ideal S4096 .f32) shapeCasts_S4096_S2x2x1024)
      slices_S2x2x1024_S2x1x1024_0_1_0) shapeCasts_S2x1x1024_S2x1024) shapeCasts_S2x1024_S1x2048 := by
    unfold V
    sl_kernel_rfl
  rw [e]; pointwise

end Cert.Kernel6Ideal.Value
-- ==== Proof.FilterRef.lean ====
/- The filter network's reference, read at an index. -/
module
public import proofs.«01_k».proof.Proof.Gen.Reference6Ideal.Read
public import proofs.«01_k».proof.Proof.FilterPay
public import Idealize.ShloMosaic.Lib.Claim
public import Idealize.ShloMosaic.Lib.Pointwise
@[expose] public section
set_option maxRecDepth 16384
noncomputable section
open Idealize.ShloMosaic Idealize.ShloMosaic.TcCoe Idealize.SL.Sem

namespace Cert.Filter
open Cert.Reference6Ideal Cert.Reference6Ideal.Gen Cert.Reference6Ideal.Read

variable (x0 : FVec Ideal S33x64 .f32) (x1 x2 : FVec Ideal S64 .f32) (x3 : FVec Ideal S64x64 .f32) (x4 x5 : FVec Ideal S64 .f32)
  (x6 : FVec Ideal S64x4096 .f32) (x7 : FVec Ideal S4096 .f32)

/-- The time of a row. -/
theorem time_ref (n : Fin 2048) : val_main_v0 (F := Ideal) (ix1 n) = ((n.val : ℝ) : EReal) := by
  pointwise [val_main_v0]
  refine (show FloatOps.sitofp (F := Ideal) FTy.f32 (BitVec.ofNat 32 n.val) = (((BitVec.ofNat 32 n.val).toInt : ℝ) : EReal) from rfl).trans ?_
  rw [BitVec.toInt_eq_toNat_of_lt (by simp; omega)]
  have : n.val % 4294967296 = n.val := Nat.mod_eq_of_lt (by omega)
  simp [this]

/-- A sum over the features: the time, the cosines, the sines. -/
theorem features (a : EReal) (b c : Fin 16 → EReal) (w : Fin 33 → EReal) :
    (∑ x : Fin 33, (if h : x.val < 1 then a else if h2 : x.val - 1 < 16 then b ⟨x.val - 1, h2⟩ else c ⟨x.val - 1 - 16, by omega⟩) * w x)
      = w 0 * a + ∑ x : Fin 16, w ⟨1 + x.val, by omega⟩ * b x + ∑ x : Fin 16, w ⟨17 + x.val, by omega⟩ * c x := by
  rw [show (∑ x : Fin 33, (if h : x.val < 1 then a else if h2 : x.val - 1 < 16 then b ⟨x.val - 1, h2⟩ else c ⟨x.val - 1 - 16, by omega⟩) * w x)
    = ∑ x : Fin (1 + 16 + 16), (if h : x.val < 1 then a else if h2 : x.val - 1 < 16 then b ⟨x.val - 1, h2⟩ else c ⟨x.val - 1 - 16, by omega⟩) * w x from rfl,
    Fin.sum_univ_add, Fin.sum_univ_add]
  refine congrArg₂ _ (congrArg₂ _ ?_ (Finset.sum_congr rfl fun x _ => ?_)) (Finset.sum_congr rfl fun x _ => ?_)
  · simp [mul_comm]
  · have hx := x.isLt
    have e1 : ¬ (1 + x.val < 1) := by omega
    have e2 : 1 + x.val - 1 = x.val := by omega
    simp only [Fin.val_castAdd, Fin.val_natAdd, e1, e2, hx, dite_false, dite_true]
    exact mul_comm _ _
  · have hx := x.isLt
    have e1 : ¬ (1 + 16 + x.val < 1) := by omega
    have e2 : ¬ (1 + 16 + x.val - 1 < 16) := by omega
    have e3 : 1 + 16 + x.val - 1 - 16 = x.val := by omega
    simp only [Fin.val_natAdd, e1, e2, e3, dite_false]
    exact mul_comm _ _

/-- The hidden row at a position, from the arguments. -/
def colA (p : EReal) : Fin 64 → EReal :=
  hid2 (hid p (fun k => val_main_v7 (F := Ideal) (ix1 k)) (fun k => x0 (ix2 0 k)) (fun k x => x0 (ix2 ⟨1 + x.val, by omega⟩ k))
    (fun k x => x0 (ix2 ⟨17 + x.val, by omega⟩ k)) (fun k => x1 (ix1 k)) (fun k => x2 (ix1 k))) (fun j k => x3 (ix2 k j)) (fun k => x4 (ix1 k))
    (fun k => x5 (ix1 k))

/-- A lag's entry of a filter, from the arguments. -/
def tapA (n : ℕ) (e : Fin 4096) : EReal :=
  tap (colA x0 x1 x2 x3 x4 x5 ((n : ℝ) : EReal)) (fun j => x6 (ix2 j e)) (Ideal.div ((n : ℝ) : EReal) (Ideal.ofBits FTy.f32 0x44FFE000#32)) (size (x7 (ix1 e)))

/-- The first layer's products. -/
theorem v18_ref (n : Fin 2048) (k : Fin 64) : val_main_v18 (F := Ideal) x0 (ix2 n k)
    = x0 (ix2 0 k) * Ideal.div ((n.val : ℝ) : EReal) (Ideal.ofBits FTy.f32 0x44FFE000#32)
      + ∑ x : Fin 16, x0 (ix2 ⟨1 + x.val, by omega⟩ k) * Ideal.cos (ang ((n.val : ℝ) : EReal) (fun k => val_main_v7 (F := Ideal) (ix1 k)) x)
      + ∑ x : Fin 16, x0 (ix2 ⟨17 + x.val, by omega⟩ k) * (0 - Ideal.sin (ang ((n.val : ℝ) : EReal) (fun k => val_main_v7 (F := Ideal) (ix1 k)) x)) := by
  pointwise [val_main_v18, val_main_v17, val_main_v16, val_main_v15, val_main_v14, val_main_v13, val_main_v12, val_main_v11, val_main_v10, val_main_v9,
    val_main_v8, val_main_v6, val_main_v5, val_main_v4, val_main_v3, val_main_v2, val_main_v1, val_main_cst, val_main_cst_0, val_main_cst_1, time_ref]
  have ea : ∀ x : Fin 16, Ideal.div (Ideal.ofBits FTy.f32 0x40C90FDB#32 * ((n.val : ℝ) : EReal)) (Ideal.ofBits FTy.f32 0x45000000#32) * val_main_v7 (F := Ideal) (ix1 x)
      = ang ((n.val : ℝ) : EReal) (fun k => val_main_v7 (F := Ideal) (ix1 k)) x := fun x => mul_comm _ _
  simp only [ea]
  refine (features _ (fun x => Ideal.cos (ang ((n.val : ℝ) : EReal) (fun k => val_main_v7 (F := Ideal) (ix1 k)) x))
    (fun x => -Ideal.sin (ang ((n.val : ℝ) : EReal) (fun k => val_main_v7 (F := Ideal) (ix1 k)) x)) (fun x => x0 (ix2 x k))).trans ?_
  simp only [zero_sub]

/-- The filters before the split. -/
theorem v43_ref (n : Fin 2048) (e : Fin 4096) : val_main_v43 (F := Ideal) x0 x1 x2 x3 x4 x5 x6 x7 (ix2 n e) = tapA x0 x1 x2 x3 x4 x5 x6 x7 n.val e := by
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24, val_main_v23,
    val_main_v22, val_main_v21, val_main_v20, val_main_v19, val_main_v2, val_main_v1, val_main_cst, time_ref]
  simp only [v18_ref]
  unfold tapA tap colA hid2 hid
  rw [zero_sub]
  refine congrArg (· * _) (Finset.sum_congr rfl fun j _ => congrArg (fun z => Ideal.sin (x5 (ix1 j) * (z + x4 (ix1 j))) * x6 (ix2 j e)) ?_)
  exact Finset.sum_congr rfl fun k _ => mul_comm _ _

/-- The first result. -/
theorem v57_ref (n d : Fin 2048) : val_main_v57 (F := Ideal) x0 x1 x2 x3 x4 x5 x6 x7 (ix2 n d)
    = tapA x0 x1 x2 x3 x4 x5 x6 x7 n.val ⟨d.val / 1024 * 2048 + d.val % 1024, by omega⟩ := by
  pointwise [val_main_v57, val_main_v51, val_main_v50, val_main_v49, val_main_v44]
  exact v43_ref x0 x1 x2 x3 x4 x5 x6 x7 n _

/-- The second result. -/
theorem v58_ref (n d : Fin 2048) : val_main_v58 (F := Ideal) x0 x1 x2 x3 x4 x5 x6 x7 (ix2 n d)
    = if n.val + 1 ≤ 2047 then tapA x0 x1 x2 x3 x4 x5 x6 x7 (n.val + 1) ⟨d.val / 1024 * 2048 + 1024 + d.val % 1024, by omega⟩ else 0 := by
  pointwise [val_main_v58, val_main_v56, val_main_v55, val_main_v54, val_main_v53, val_main_v52, val_main_v44, val_main_cst_5]
  by_cases h : n.val < 2047
  · rw [dif_pos h, if_pos (by omega), v43_ref]
    exact congrArg (fun z => tapA x0 x1 x2 x3 x4 x5 x6 x7 z _) (Nat.add_comm 1 n.val)
  · rw [dif_neg h, if_neg (by omega)]

/-- The third result. -/
theorem v48_ref (d : Fin 2048) : val_main_v48 (F := Ideal) x0 x1 x2 x3 x4 x5 x6 x7 (ix2 0 d)
    = ∑ n : Fin 2048, size (tapA x0 x1 x2 x3 x4 x5 x6 x7 n.val ⟨d.val / 1024 * 2048 + d.val % 1024, by omega⟩)
      + ∑ n : Fin 2048, size (tapA x0 x1 x2 x3 x4 x5 x6 x7 n.val ⟨d.val / 1024 * 2048 + 1024 + d.val % 1024, by omega⟩) := by
  pointwise [val_main_v48, val_main_v47, val_main_v46, val_main_v45, val_main_v44, val_main_cst_3, val_main_cst_4]
  simp only [v43_ref]
  rw [Fin.sum_univ_two]
  refine congrArg₂ _ (Finset.sum_congr rfl fun n _ => ?_) (Finset.sum_congr rfl fun n _ => ?_)
  · exact congrArg (fun e => size (tapA x0 x1 x2 x3 x4 x5 x6 x7 n.val e)) (Fin.ext (by simp))
  · exact congrArg (fun e => size (tapA x0 x1 x2 x3 x4 x5 x6 x7 n.val e)) (Fin.ext (by simp))

/-- A sum over all lags in four parts. -/
theorem four (g : ℕ → EReal) : ∑ n : Fin 2048, g n.val = ∑ r : Fin 512, g (0 * 512 + r.val) + ∑ r : Fin 512, g (1 * 512 + r.val)
    + ∑ r : Fin 512, g (2 * 512 + r.val) + ∑ r : Fin 512, g (3 * 512 + r.val) := by
  rw [show (∑ n : Fin 2048, g n.val) = ∑ n : Fin (512 + 512 + 512 + 512), g n.val from rfl, Fin.sum_univ_add, Fin.sum_univ_add, Fin.sum_univ_add]
  simp only [Fin.val_castAdd, Fin.val_natAdd, Nat.zero_mul, Nat.zero_add, Nat.one_mul]

/-- The sums of sizes, part by part, are the sums over all lags. -/
theorem sums (f b : ℕ → EReal) :
    (∑ r : Fin 512, size (f (0 * 512 + r.val)) + ∑ r : Fin 512, size (if 0 * 512 + r.val + 1 ≤ 2047 then b (0 * 512 + r.val + 1) else 0)) + size (b 0)
      + (∑ r : Fin 512, size (f (1 * 512 + r.val)) + ∑ r : Fin 512, size (if 1 * 512 + r.val + 1 ≤ 2047 then b (1 * 512 + r.val + 1) else 0))
      + (∑ r : Fin 512, size (f (2 * 512 + r.val)) + ∑ r : Fin 512, size (if 2 * 512 + r.val + 1 ≤ 2047 then b (2 * 512 + r.val + 1) else 0))
      + (∑ r : Fin 512, size (f (3 * 512 + r.val)) + ∑ r : Fin 512, size (if 3 * 512 + r.val + 1 ≤ 2047 then b (3 * 512 + r.val + 1) else 0))
      = ∑ n : Fin 2048, size (f n.val) + ∑ n : Fin 2048, size (b n.val) := by
  have hs : ∑ n : Fin 2048, size (b n.val) = size (b 0) + ∑ n : Fin 2048, size (if n.val + 1 ≤ 2047 then b (n.val + 1) else 0) := by
    rw [Fin.sum_univ_eq_sum_range (fun n => size (b n)) 2048, Fin.sum_univ_eq_sum_range (fun n => size (if n + 1 ≤ 2047 then b (n + 1) else 0)) 2048,
      Finset.sum_range_succ' _ 2047, Finset.sum_range_succ _ 2047, add_comm (size (b 0))]
    have hz : size (if 2047 + 1 ≤ 2047 then b (2047 + 1) else 0) = 0 := by
      rw [if_neg (by omega)]; show max (0 : EReal) (-0) = 0; simp
    rw [hz, add_zero]
    refine congrArg (· + _) (Finset.sum_congr rfl fun n hn => ?_)
    rw [if_pos (by have := Finset.mem_range.mp hn; omega)]
  rw [hs, four (fun n => size (f n)), four (fun n => size (if n + 1 ≤ 2047 then b (n + 1) else 0))]
  abel

end Cert.Filter
-- ==== Proof.FilterJoin.lean ====
/- The filter network's results beside the reference's. -/
module
public import proofs.«01_k».proof.Defs
public import proofs.«01_k».proof.Proof.FilterHost
public import proofs.«01_k».proof.Proof.FilterRef
public import proofs.«01_k».proof.Proof.Gen.Pre_finite
@[expose] public section
set_option maxRecDepth 16384
noncomputable section
open Idealize.ShloMosaic Idealize.ShloMosaic.TcCoe Idealize.SL.Sem

namespace Cert.Filter

/-- A value whose size is below the infinite one is a number. -/
theorem num_of_lt (x : EReal) (h : BitVec.ofBool (decide (FloatOps.absf (F := Ideal) (φ := .f32) x < Ideal.ofBits FTy.f32 0x7F800000#32)) = 1#1) : IsNum x := by
  have hi : Ideal.ofBits FTy.f32 0x7F800000#32 = ⊤ := by simp [Ideal.ofBits, Ideal.ieee]
  have hl : max x (-x) < ⊤ := by
    rw [hi] at h
    by_contra hc
    rw [show (decide (FloatOps.absf (F := Ideal) (φ := .f32) x < ⊤)) = false from decide_eq_false hc] at h
    exact absurd h (by decide)
  have h1 : x ≠ ⊤ := fun e => by simp [e] at hl
  have h2 : x ≠ ⊥ := fun e => by simp [e] at hl
  exact ⟨x.toReal, (EReal.coe_toReal h1 h2).symm⟩

/-- What the precondition says of the last layer's weights: all of them are numbers. -/
theorem weights (a0 : FVec Ideal Cert.Pre_finite.S33x64 .f32) (a1 a2 : FVec Ideal Cert.Pre_finite.S64 .f32) (a3 : FVec Ideal Cert.Pre_finite.S64x64 .f32)
    (a4 a5 : FVec Ideal Cert.Pre_finite.S64 .f32) (a6 : FVec Ideal Cert.Pre_finite.S64x4096 .f32) (a7 : FVec Ideal Cert.Pre_finite.S4096 .f32)
    (h : Cert.Pre_finite.fn (F := Ideal) a0 a1 a2 a3 a4 a5 a6 a7 = fun _ => 1#1) (j : Fin 64) (e : Fin 4096) : IsNum (a6 (ix2 j e)) := by
  have q := congrFun h (ix2 j e)
  simp only [Cert.Pre_finite.fn] at q
  revert q
  pointwise
  exact num_of_lt _

/-- Equal weights, offsets and frequencies give equal hidden rows. -/
theorem hid_congr {p : EReal} {bd bd' : Fin 16 → EReal} {t t' : Fin 64 → EReal} {c c' s s' : Fin 64 → Fin 16 → EReal} {b b' f f' : Fin 64 → EReal}
    {w w' : Fin 64 → Fin 64 → EReal} {b2 b2' f2 f2' : Fin 64 → EReal} (h1 : bd = bd') (h2 : t = t') (h3 : c = c') (h4 : s = s') (h5 : b = b')
    (h6 : f = f') (h7 : w = w') (h8 : b2 = b2') (h9 : f2 = f2') : hid2 (hid p bd t c s b f) w b2 f2 = hid2 (hid p bd' t' c' s' b' f') w' b2' f2' := by
  subst h1 h2 h3 h4 h5 h6 h7 h8 h9; rfl

/-- Equal rows, weights and decays give equal entries. -/
theorem tap_congr {h h' w w' : Fin 64 → EReal} {t d d' : EReal} (h1 : h = h') (h2 : w = w') (h3 : d = d') : tap h w t (size d) = tap h' w' t (size d') := by
  subst h1 h2 h3; rfl

end Cert.Filter

namespace Cert.Kernel6Ideal.Value
open Cert.Kernel6Ideal Cert.Kernel6Ideal.Gen Cert.Filter
variable (m : (ℓ : Loc nD τ sig) → Buf (Elt Ideal) ℓ)

/-- Under the precondition the numbers that the kernel splits are numbers. -/
theorem numbers (h : Cert.Pre_Kernel6Ideal_finite m) (c : Dev nD) : Numbers m c := by
  have h6 := weights _ _ _ _ _ _ _ _ (h c)
  refine ⟨fun j k => ?_, fun j k => ?_⟩
  · rw [V4]; exact h6 _ _
  · rw [V7]; exact h6 _ _

/-- An entry of a filter from the kernel's own arguments. -/
def tapK (c : Dev nD) (n : ℕ) (e : Fin 4096) : EReal :=
  tapA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) n e

/-- The kernel's hidden row is the arguments'. -/
theorem col_eq (c : Dev nD) (p : EReal) : col m c p = colA (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) p := by
  exact hid_congr (funext fun k => V15 m c k) (funext fun k => V17 m c k) (funext fun k => funext fun x => V19 m c k x)
    (funext fun k => funext fun x => V21 m c k x) (funext fun k => V22 m c k) (funext fun k => V23 m c k) (funext fun j => funext fun k => V24 m c j k)
    (funext fun k => V25 m c k) (funext fun k => V26 m c k)

/-- The kernel's forward entry. -/
theorem fwdAt_eq (c : Dev nD) (n : ℕ) (d : Fin 2048) : fwdAt m c n d = tapK m c n ⟨d.val / 1024 * 2048 + d.val % 1024, by omega⟩ := by
  exact tap_congr (col_eq m c _) (funext fun j => V4 m c j d) (V10 m c d)

/-- The kernel's backward entry. -/
theorem bwdAt_eq (c : Dev nD) (n : ℕ) (d : Fin 2048) : bwdAt m c n d = tapK m c n ⟨d.val / 1024 * 2048 + 1024 + d.val % 1024, by omega⟩ := by
  exact tap_congr (col_eq m c _) (funext fun j => V7 m c j d) (V13 m c d)

/-- The kernel's sums of sizes over all lags. -/
theorem nrm_eq (c : Dev nD) (d : Fin 2048) : nrm m c (ix2 0 d)
    = ∑ n : Fin 2048, size (tapK m c n.val ⟨d.val / 1024 * 2048 + d.val % 1024, by omega⟩)
      + ∑ n : Fin 2048, size (tapK m c n.val ⟨d.val / 1024 * 2048 + 1024 + d.val % 1024, by omega⟩) := by
  refine Eq.trans ?_ (sums (fun n => tapK m c n ⟨d.val / 1024 * 2048 + d.val % 1024, by omega⟩)
    (fun n => tapK m c n ⟨d.val / 1024 * 2048 + 1024 + d.val % 1024, by omega⟩))
  simp only [← fwdAt_eq, ← bwdAt_eq]
  rfl

open Cert.Reference6Ideal.Read

/-- The first result is the reference's. -/
theorem result0 (h : Cert.Pre_Kernel6Ideal_finite m) (c : Dev nD) : (dats m 0 c).arrAt 13 (cfgs 0).N
    = val_main_v57 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (final13 m c (numbers m h c)).trans (funext fun i => ?_)
  obtain ⟨n, d, rfl⟩ : ∃ (n d : Fin 2048), i = ix2 n d := ⟨i 0, i 1, eq_ix2 i⟩
  exact (fwdAt_eq m c n.val d).trans (v57_ref _ _ _ _ _ _ _ _ n d).symm

/-- The second result is the reference's. -/
theorem result1 (h : Cert.Pre_Kernel6Ideal_finite m) (c : Dev nD) : (dats m 0 c).arrAt 14 (cfgs 0).N
    = val_main_v58 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (final14 m c (numbers m h c)).trans (funext fun i => ?_)
  obtain ⟨n, d, rfl⟩ : ∃ (n d : Fin 2048), i = ix2 n d := ⟨i 0, i 1, eq_ix2 i⟩
  refine Eq.trans ?_ (v58_ref _ _ _ _ _ _ _ _ n d).symm
  show (if n.val + 1 ≤ 2047 then bwdAt m c (n.val + 1) d else 0) = _
  rw [bwdAt_eq]; rfl

/-- The third result is the reference's. -/
theorem result2 (h : Cert.Pre_Kernel6Ideal_finite m) (c : Dev nD) : (dats m 0 c).arrAt 15 (cfgs 0).N
    = val_main_v48 (F := Ideal) (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (final15 m c (numbers m h c)).trans (funext fun i => ?_)
  obtain ⟨z, d, rfl⟩ : ∃ (z : Fin 1) (d : Fin 2048), i = ix2 z d := ⟨i 0, i 1, eq_ix2 i⟩
  obtain rfl : z = 0 := Subsingleton.elim _ _
  exact (nrm_eq m c d).trans (v48_ref _ _ _ _ _ _ _ _ d).symm

end Cert.Kernel6Ideal.Value
-- ==== Proof.OutProj.lean ====
/- The output projection: the norm and the gate of the second branch, the product of both branches with the output weights, the
   residual and its layer norm. Both sides are read row by row as one function of the row's entries. -/
module
public import proofs.«01_k».proof.Proof.Gen.Kernel4Ideal.Value
public import proofs.«01_k».proof.Proof.Gen.Reference4Ideal.Read
public import Idealize.ShloMosaic.Lib.Claim
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

/-! # The end of a layer, row by row -/

namespace Cert.OutProj

/-- The Hyena branch's norm and gate on one row. -/
def gated (z g w : Fin 1024 → EReal) (e : Fin 1024) : EReal :=
  z e * Ideal.rsqrt (Ideal.div (∑ x, z x * z x) (Ideal.ofBits FTy.f32 1149239296#32) + Ideal.ofBits FTy.f32 925353388#32) * w e
    * (g e * Ideal.logistic (g e))

/-- The scaled residual plus the projection of both branches, one row. -/
def resid (a zn : Fin 1024 → EReal) (w : Fin 2048 → Fin 2048 → EReal) (h : Fin 2048 → EReal) (d : Fin 2048) : EReal :=
  Ideal.ofBits FTy.f32 1068827891#32 * h d
    + (∑ x : Fin 1024, a x * w ⟨x, by omega⟩ d + ∑ x : Fin 1024, zn x * w ⟨1024 + x, by omega⟩ d)

/-- The layer norm of one row. -/
def lnorm (t g b : Fin 2048 → EReal) (d : Fin 2048) : EReal :=
  (t d - Ideal.div (∑ x, t x) (Ideal.ofBits FTy.f32 1157627904#32))
    * Ideal.rsqrt (Ideal.div (∑ x, (t x - Ideal.div (∑ x, t x) (Ideal.ofBits FTy.f32 1157627904#32))
        * (t x - Ideal.div (∑ x, t x) (Ideal.ofBits FTy.f32 1157627904#32))) (Ideal.ofBits FTy.f32 1157627904#32)
      + Ideal.ofBits FTy.f32 925353388#32) * g d + b d

/-- One row of the result. -/
def rowOut (a z g hg : Fin 1024 → EReal) (w : Fin 2048 → Fin 2048 → EReal) (h lg lb : Fin 2048 → EReal) : Fin 2048 → EReal :=
  lnorm (resid a (gated z g hg) w h) lg lb

/-- Rows that agree entry by entry give the same result. -/
theorem rowOut_congr {a a' z z' g g' hg hg' : Fin 1024 → EReal} {w w' : Fin 2048 → Fin 2048 → EReal}
    {h h' lg lg' lb lb' : Fin 2048 → EReal} {d d' : Fin 2048} (ha : ∀ e, a e = a' e) (hz : ∀ e, z e = z' e)
    (hgt : ∀ e, g e = g' e) (hhg : ∀ e, hg e = hg' e) (hw : ∀ e d, w e d = w' e d) (hh : ∀ d, h d = h' d)
    (hlg : ∀ d, lg d = lg' d) (hlb : ∀ d, lb d = lb' d) (hd : d = d') :
    rowOut a z g hg w h lg lb d = rowOut a' z' g' hg' w' h' lg' lb' d' := by
  rw [funext ha, funext hz, funext hgt, funext hhg, funext fun e => funext (hw e), funext hh, funext hlg, funext hlb, hd]

end Cert.OutProj

namespace Cert.Kernel4Ideal.Value
open Cert.Kernel4Ideal Cert.Kernel4Ideal.Gen Cert.OutProj
variable (m : (ℓ : Loc nD τ sig) → Buf (Elt Ideal) ℓ)

/-- The second chain's gated branch, at an index. -/
theorem pay5_apply (z g : Vec Ideal S256x1024 .bf16) (w : Vec Ideal S1x1024 .f32) (r : Fin 256) (e : Fin 1024) :
    k0_pay5 (F := Ideal) z g w (ix2 r e)
      = gated (fun e => z (ix2 r e)) (fun e => g (ix2 r e)) (fun e => w (ix2 0 e)) e := by
  pointwise [k0_pay5]
  rfl

/-- The second chain's result, at an index. -/
theorem second_apply (a z g : Vec Ideal S256x1024 .bf16) (hg : Vec Ideal S1x1024 .f32) (w : Vec Ideal S2048x2048 .bf16)
    (h : Vec Ideal S256x2048 .f32) (lg lb : Vec Ideal S1x2048 .f32) (r : Fin 256) (d : Fin 2048) :
    k0_pay1 (F := Ideal) (k0_pay5 z g hg) a w h lg lb (ix2 r d)
      = rowOut (fun e => a (ix2 r e)) (fun e => z (ix2 r e)) (fun e => g (ix2 r e)) (fun e => hg (ix2 0 e))
        (fun e d => w (ix2 e d)) (fun d => h (ix2 r d)) (fun d => lg (ix2 0 d)) (fun d => lb (ix2 0 d)) d := by
  pointwise [k0_pay1, pay5_apply]
  rfl

/-- The first chain's centred row, at an index. -/
theorem pay2_apply (a z g : Vec Ideal S256x1024 .bf16) (hg : Vec Ideal S1x1024 .f32) (w : Vec Ideal S2048x2048 .bf16)
    (h : Vec Ideal S256x2048 .f32) (r : Fin 256) (d : Fin 2048) :
    k0_pay2 (F := Ideal) z g hg a w h (ix2 r d)
      = resid (fun e => a (ix2 r e)) (gated (fun e => z (ix2 r e)) (fun e => g (ix2 r e)) (fun e => hg (ix2 0 e)))
          (fun e d => w (ix2 e d)) (fun d => h (ix2 r d)) d
        - Ideal.div (∑ x, resid (fun e => a (ix2 r e)) (gated (fun e => z (ix2 r e)) (fun e => g (ix2 r e)) (fun e => hg (ix2 0 e)))
          (fun e d => w (ix2 e d)) (fun d => h (ix2 r d)) x) (Ideal.ofBits FTy.f32 1157627904#32) := by
  pointwise [k0_pay2]
  rfl

/-- The first chain's result, at an index. -/
theorem first_apply (a z g : Vec Ideal S256x1024 .bf16) (hg : Vec Ideal S1x1024 .f32) (w : Vec Ideal S2048x2048 .bf16)
    (h : Vec Ideal S256x2048 .f32) (lg lb : Vec Ideal S1x2048 .f32) (r : Fin 256) (d : Fin 2048) :
    k0_pay4 (F := Ideal) (k0_pay2 z g hg a w h) (k0_pay3 z g hg a w h) lg lb (ix2 r d)
      = rowOut (fun e => a (ix2 r e)) (fun e => z (ix2 r e)) (fun e => g (ix2 r e)) (fun e => hg (ix2 0 e))
        (fun e d => w (ix2 e d)) (fun d => h (ix2 r d)) (fun d => lg (ix2 0 d)) (fun d => lb (ix2 0 d)) d := by
  pointwise [k0_pay4, k0_pay3, pay2_apply]
  rfl

/-- The windows' block indices at every grid point. -/
theorem idx : ∀ t : Fin cfg0.N, win0_0.index t = ![t.val, 0] ∧ win0_1.index t = ![t.val, 0]
    ∧ win0_2.index t = ![t.val, 2] ∧ win0_3.index t = ![0, 0] ∧ win0_4.index t = ![0, 0]
    ∧ win0_5.index t = ![t.val, 0] ∧ win0_6.index t = ![0, 0] ∧ win0_7.index t = ![0, 0] ∧ win0_8.index t = ![t.val, 0] :=
  (by decide +kernel : ∀ t : Fin grid0.N, _)

/-- The result as a function of the arrays the kernel is given. -/
def res (a z : FVec Ideal S16384x1024 .bf16) (proj : FVec Ideal S16384x3584 .bf16) (hg : FVec Ideal S1x1024 .f32)
    (w : FVec Ideal S2048x2048 .bf16) (h : FVec Ideal S16384x2048 .f32) (lg lb : FVec Ideal S1x2048 .f32) :
    FVec Ideal S16384x2048 .f32 := fun i =>
  rowOut (fun e => a (ix2 (i 0) e)) (fun e => z (ix2 (i 0) e)) (fun e => proj (ix2 (i 0) ⟨2048 + e.val, by omega⟩))
    (fun e => hg (ix2 0 e)) (fun e d => w (ix2 e d)) (fun d => h (ix2 (i 0) d)) (fun d => lg (ix2 0 d)) (fun d => lb (ix2 0 d)) (i 1)

/-- The gate's block, at an index. -/
theorem X0_2_apply (c : Dev nD) (t : Fin cfg0.N) (r : Fin 512) (e : Fin 1024) :
    X0_2 m c t (ix2 r e) = V m c main_arg2 (ix2 ⟨512 * t.val + r, by have := lt_of_lt_of_eq t.isLt N_0; omega⟩ ⟨2048 + e, by omega⟩) := by
  unfold X0_2 Pipeline.Window.fill
  rw [dif_pos (moved0_2 t (ix2 r e))]
  unfold iblk
  blk_simp
  blk_ext [idx t]

/-- The result array after the run. -/
theorem final (c : Dev nD) : (dats m 0 c).arrAt 8 (cfgs 0).N
    = res (V m c main_arg0) (V m c main_arg1) (V m c main_arg2) (V m c main_v0) (V m c main_v1) (V m c main_arg5) (V m c main_v2) (V m c main_v3) := by
  refine (dats m 0 c).arrAt_eq_of_covers 8 _ (by decide +kernel) fun t _ y => ?_
  blk_simp
  rw [after0_8]; unfold outsAt0; frame_out
  canon_tiles x h
  · obtain ⟨r, d, rfl⟩ : ∃ r d, x = ix2 r d := ⟨_, _, eq_ix2 x⟩
    have hy0 : (y 0 : ℕ) = 256 + r.val := h0
    have hy1 : (y 1 : ℕ) = d.val := h1
    refine (second_apply _ _ _ _ _ _ _ _ r d).trans ?_
    refine rowOut_congr (fun e => ?_) (fun e => ?_) (fun e => ?_) (fun e => ?_) (fun e d => ?_) (fun d => ?_) (fun d => ?_) (fun d => ?_) ?_
    case refine_3 =>
      pointwise [X0_2_apply]
      blk_ext [idx t]
    case refine_9 => exact Fin.ext (by blk_simp [idx t]; omega)
    all_goals blk_point [iblk, idx t]
  · obtain ⟨r, d, rfl⟩ : ∃ r d, x = ix2 r d := ⟨_, _, eq_ix2 x⟩
    have hy0 : (y 0 : ℕ) = r.val := h0
    have hy1 : (y 1 : ℕ) = d.val := h1
    refine (first_apply _ _ _ _ _ _ _ _ r d).trans ?_
    refine rowOut_congr (fun e => ?_) (fun e => ?_) (fun e => ?_) (fun e => ?_) (fun e d => ?_) (fun d => ?_) (fun d => ?_) (fun d => ?_) ?_
    case refine_3 =>
      pointwise [X0_2_apply]
      blk_ext [idx t]
    case refine_9 => exact Fin.ext (by blk_simp [idx t]; omega)
    all_goals blk_point [iblk, idx t]

/-- The arrays that the region finds, from the arguments. -/
theorem V_all (c : Dev nD) :
    res (V m c main_arg0) (V m c main_arg1) (V m c main_arg2) (V m c main_v0) (V m c main_v1) (V m c main_arg5) (V m c main_v2) (V m c main_v3)
    = res (m ((c : Thread nD τ).loc main_arg0)) (m ((c : Thread nD τ).loc main_arg1)) (m ((c : Thread nD τ).loc main_arg2))
        (shapeCast S1x1024 (m ((c : Thread nD τ).loc main_arg3)) shapeCasts_S1024_S1x1024)
        (truncf (F := Ideal) (φ := .f32) .bf16 (m ((c : Thread nD τ).loc main_arg4)) bitsLt_bf16_f32) (m ((c : Thread nD τ).loc main_arg5))
        (shapeCast S1x2048 (m ((c : Thread nD τ).loc main_arg6)) shapeCasts_S2048_S1x2048)
        (shapeCast S1x2048 (m ((c : Thread nD τ).loc main_arg7)) shapeCasts_S2048_S1x2048) := by
  unfold V
  sl_kernel_rfl

end Cert.Kernel4Ideal.Value

namespace Cert.OutProj
open Cert.Reference4Ideal Cert.Reference4Ideal.Gen Cert.Reference4Ideal.Read
/-- The gated branch of the reference, at an index. -/
theorem gated_ref (x1 : FVec Ideal S16384x1024 .bf16) (x2 : FVec Ideal S16384x3584 .bf16) (x3 : FVec Ideal S1024 .f32) (t : Fin 16384) (e : Fin 1024) :
   val_main_v17 (F := Ideal) x1 x2 x3 (ix2 t e) = gated (fun e => x1 (ix2 t e)) (fun e => x2 (ix2 t ⟨2048 + e.val, by omega⟩)) (fun e => x3 (ix1 e)) e := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_call0_v0, val_main_call0_v1, val_main_call0_v2, val_main_call0_v3, val_main_call0_v4, val_main_call0_v5, val_main_cst, val_main_cst_0, val_main_cst_1, val_main_call0_cst, val_main_call0_cst_0]
  rfl
/-- The residual plus the projection of the reference, at an index. -/
theorem resid_ref (x0 x1 : FVec Ideal S16384x1024 .bf16) (x2 : FVec Ideal S16384x3584 .bf16) (x3 : FVec Ideal S1024 .f32) (x4 : FVec Ideal S2048x2048 .f32) (x5 : FVec Ideal S16384x2048 .f32)
   (t : Fin 16384) (d : Fin 2048) :
   val_main_v23 (F := Ideal) x0 x1 x2 x3 x4 x5 (ix2 t d) = resid (fun e => x0 (ix2 t e)) (gated (fun e => x1 (ix2 t e)) (fun e => x2 (ix2 t ⟨2048 + e.val, by omega⟩)) (fun e => x3 (ix1 e)))
    (fun e d => x4 (ix2 e d)) (fun d => x5 (ix2 t d)) d := by
  pointwise [val_main_v23, val_main_v22, val_main_v21, val_main_v20, val_main_v19, val_main_v18, gated_ref, val_main_cst_2]
  rfl
/-- The result of the reference, at an index. -/
theorem row_ref (x0 x1 : FVec Ideal S16384x1024 .bf16) (x2 : FVec Ideal S16384x3584 .bf16) (x3 : FVec Ideal S1024 .f32) (x4 : FVec Ideal S2048x2048 .f32) (x5 : FVec Ideal S16384x2048 .f32)
   (x6 x7 : FVec Ideal S2048 .f32) (t : Fin 16384) (d : Fin 2048) :
   val_main_v47 (F := Ideal) x0 x1 x2 x3 x4 x5 x6 x7 (ix2 t d) = rowOut (fun e => x0 (ix2 t e)) (fun e => x1 (ix2 t e)) (fun e => x2 (ix2 t ⟨2048 + e.val, by omega⟩)) (fun e => x3 (ix1 e))
    (fun e d => x4 (ix2 e d)) (fun d => x5 (ix2 t d)) (fun d => x6 (ix1 d)) (fun d => x7 (ix1 d)) d := by
  pointwise [val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst_3, val_main_cst_4, val_main_cst_5, val_main_cst_6, val_main_cst_7, resid_ref]
  rfl

/-- The array that the kernel leaves is the reference's result. -/
theorem final_eq (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 8 (Cert.Kernel4Ideal.cfgs 0).N = val_main_v47 (F := Ideal)
      (m ((c : Thread Cert.Kernel4Ideal.nD Cert.Kernel4Ideal.τ).loc Cert.Kernel4Ideal.main_arg0))
      (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2))
      (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg4))
      (m ((c : Thread Cert.Kernel4Ideal.nD Cert.Kernel4Ideal.τ).loc Cert.Kernel4Ideal.main_arg5))
      (m ((c : Thread Cert.Kernel4Ideal.nD Cert.Kernel4Ideal.τ).loc Cert.Kernel4Ideal.main_arg6))
      (m ((c : Thread Cert.Kernel4Ideal.nD Cert.Kernel4Ideal.τ).loc Cert.Kernel4Ideal.main_arg7)) := by
  rw [Cert.Kernel4Ideal.Value.final, Cert.Kernel4Ideal.Value.V_all]
  funext i
  refine Eq.trans ?_ ((row_ref _ _ _ _ _ _ _ _ (i 0) (i 1)).symm.trans (congrArg _ (eq_ix2 i).symm))
  refine rowOut_congr (fun e => ?_) (fun e => ?_) (fun e => ?_) (fun e => ?_) (fun e d => ?_) (fun d => ?_) (fun d => ?_) (fun d => ?_) rfl
  all_goals pointwise
end Cert.OutProj
-- ==== Proof.OutProj2.lean ====
/- The output projection with both its results: the rows that the next layer adds to and the narrow ones that it projects. Both are
   the same function of the row's entries as in the form with one result. -/
module
public import proofs.«01_k».proof.Proof.OutProj
public import proofs.«01_k».proof.Proof.Gen.Kernel7Ideal.Value
public import proofs.«01_k».proof.Proof.Gen.Reference7Ideal.Read
public import Idealize.ShloMosaic.Lib.Claim
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

namespace Cert.Kernel7Ideal.Value
open Cert.Kernel7Ideal Cert.Kernel7Ideal.Gen Cert.OutProj
variable (m : (ℓ : Loc nD τ sig) → Buf (Elt Ideal) ℓ)

/-- The second chain's normed branch, at an index. -/
theorem pay5_apply (z : Vec Ideal S256x1024 .bf16) (w : Vec Ideal S1x1024 .f32) (r : Fin 256) (e : Fin 1024) :
    k0_pay5 (F := Ideal) z w (ix2 r e)
      = z (ix2 r e) * Ideal.rsqrt (Ideal.div (∑ x, z (ix2 r x) * z (ix2 r x)) (Ideal.ofBits FTy.f32 1149239296#32) + Ideal.ofBits FTy.f32 925353388#32) * w (ix2 0 e) := by
  pointwise [k0_pay5]

/-- The second chain's gate, at an index. -/
theorem pay6_apply (g : Vec Ideal S256x1024 .bf16) (r : Fin 256) (e : Fin 1024) :
    k0_pay6 (F := Ideal) g (ix2 r e) = g (ix2 r e) * Ideal.logistic (g (ix2 r e)) := by
  pointwise [k0_pay6]

/-- The second chain's result, at an index. -/
theorem second_apply (a z g : Vec Ideal S256x1024 .bf16) (hg : Vec Ideal S1x1024 .f32) (w : Vec Ideal S2048x2048 .bf16)
    (h : Vec Ideal S256x2048 .f32) (lg lb : Vec Ideal S1x2048 .f32) (r : Fin 256) (d : Fin 2048) :
    k0_pay7 (F := Ideal) (k0_pay5 z hg) (k0_pay6 g) a w h lg lb (ix2 r d)
      = rowOut (fun e => a (ix2 r e)) (fun e => z (ix2 r e)) (fun e => g (ix2 r e)) (fun e => hg (ix2 0 e))
        (fun e d => w (ix2 e d)) (fun d => h (ix2 r d)) (fun d => lg (ix2 0 d)) (fun d => lb (ix2 0 d)) d := by
  pointwise [k0_pay7, pay5_apply, pay6_apply]
  rfl

/-- The second chain's narrow result, at an index. -/
theorem second_narrow (a z g : Vec Ideal S256x1024 .bf16) (hg : Vec Ideal S1x1024 .f32) (w : Vec Ideal S2048x2048 .bf16)
    (h : Vec Ideal S256x2048 .f32) (lg lb : Vec Ideal S1x2048 .f32) (r : Fin 256) (d : Fin 2048) :
    k0_pay8 (F := Ideal) (k0_pay5 z hg) (k0_pay6 g) a w h lg lb (ix2 r d)
      = rowOut (fun e => a (ix2 r e)) (fun e => z (ix2 r e)) (fun e => g (ix2 r e)) (fun e => hg (ix2 0 e))
        (fun e d => w (ix2 e d)) (fun d => h (ix2 r d)) (fun d => lg (ix2 0 d)) (fun d => lb (ix2 0 d)) d := by
  exact second_apply a z g hg w h lg lb r d

/-- The first chain's centred row, at an index. -/
theorem pay1_apply (a z g : Vec Ideal S256x1024 .bf16) (hg : Vec Ideal S1x1024 .f32) (w : Vec Ideal S2048x2048 .bf16)
    (h : Vec Ideal S256x2048 .f32) (r : Fin 256) (d : Fin 2048) :
    k0_pay1 (F := Ideal) z g hg a w h (ix2 r d)
      = resid (fun e => a (ix2 r e)) (gated (fun e => z (ix2 r e)) (fun e => g (ix2 r e)) (fun e => hg (ix2 0 e)))
          (fun e d => w (ix2 e d)) (fun d => h (ix2 r d)) d
        - Ideal.div (∑ x, resid (fun e => a (ix2 r e)) (gated (fun e => z (ix2 r e)) (fun e => g (ix2 r e)) (fun e => hg (ix2 0 e)))
          (fun e d => w (ix2 e d)) (fun d => h (ix2 r d)) x) (Ideal.ofBits FTy.f32 1157627904#32) := by
  pointwise [k0_pay1]
  rfl

/-- The first chain's result, at an index. -/
theorem first_apply (a z g : Vec Ideal S256x1024 .bf16) (hg : Vec Ideal S1x1024 .f32) (w : Vec Ideal S2048x2048 .bf16)
    (h : Vec Ideal S256x2048 .f32) (lg lb : Vec Ideal S1x2048 .f32) (r : Fin 256) (d : Fin 2048) :
    k0_pay3 (F := Ideal) (k0_pay1 z g hg a w h) (k0_pay2 z g hg a w h) lg lb (ix2 r d)
      = rowOut (fun e => a (ix2 r e)) (fun e => z (ix2 r e)) (fun e => g (ix2 r e)) (fun e => hg (ix2 0 e))
        (fun e d => w (ix2 e d)) (fun d => h (ix2 r d)) (fun d => lg (ix2 0 d)) (fun d => lb (ix2 0 d)) d := by
  pointwise [k0_pay3, k0_pay2, pay1_apply]
  rfl

/-- The first chain's narrow result, at an index. -/
theorem first_narrow (a z g : Vec Ideal S256x1024 .bf16) (hg : Vec Ideal S1x1024 .f32) (w : Vec Ideal S2048x2048 .bf16)
    (h : Vec Ideal S256x2048 .f32) (lg lb : Vec Ideal S1x2048 .f32) (r : Fin 256) (d : Fin 2048) :
    k0_pay4 (F := Ideal) (k0_pay1 z g hg a w h) (k0_pay2 z g hg a w h) lg lb (ix2 r d)
      = rowOut (fun e => a (ix2 r e)) (fun e => z (ix2 r e)) (fun e => g (ix2 r e)) (fun e => hg (ix2 0 e))
        (fun e d => w (ix2 e d)) (fun d => h (ix2 r d)) (fun d => lg (ix2 0 d)) (fun d => lb (ix2 0 d)) d := by
  exact first_apply a z g hg w h lg lb r d

/-- The windows' block indices at every grid point. -/
theorem idx : ∀ t : Fin cfg0.N, win0_0.index t = ![t.val, 0] ∧ win0_1.index t = ![t.val, 0]
    ∧ win0_2.index t = ![t.val, 2] ∧ win0_3.index t = ![0, 0] ∧ win0_4.index t = ![0, 0]
    ∧ win0_5.index t = ![t.val, 0] ∧ win0_6.index t = ![0, 0] ∧ win0_7.index t = ![0, 0] ∧ win0_8.index t = ![t.val, 0] ∧ win0_9.index t = ![t.val, 0] :=
  (by decide +kernel : ∀ t : Fin grid0.N, _)

/-- The gate's block, at an index. -/
theorem X0_2_apply (c : Dev nD) (t : Fin cfg0.N) (r : Fin 512) (e : Fin 1024) :
    X0_2 m c t (ix2 r e) = V m c main_arg2 (ix2 ⟨512 * t.val + r, by have := lt_of_lt_of_eq t.isLt N_0; omega⟩ ⟨2048 + e, by omega⟩) := by
  unfold X0_2 Pipeline.Window.fill
  rw [dif_pos (moved0_2 t (ix2 r e))]
  unfold iblk
  blk_simp
  blk_ext [idx t]

/-- The wide result's array after the run. -/
theorem final8 (c : Dev nD) : (dats m 0 c).arrAt 8 (cfgs 0).N
    = Cert.Kernel4Ideal.Value.res (V m c main_arg0) (V m c main_arg1) (V m c main_arg2) (V m c main_v0) (V m c main_v1) (V m c main_arg5) (V m c main_v2) (V m c main_v3) := by
  refine (dats m 0 c).arrAt_eq_of_covers 8 _ (by decide +kernel) fun t _ y => ?_
  blk_simp
  rw [after0_8]; unfold outsAt0; frame_out
  canon_tiles x h
  · obtain ⟨r, d, rfl⟩ : ∃ r d, x = ix2 r d := ⟨_, _, eq_ix2 x⟩
    have hy0 : (y 0 : ℕ) = 256 + r.val := h0
    have hy1 : (y 1 : ℕ) = d.val := h1
    refine (second_apply _ _ _ _ _ _ _ _ r d).trans ?_
    refine rowOut_congr (fun e => ?_) (fun e => ?_) (fun e => ?_) (fun e => ?_) (fun e d => ?_) (fun d => ?_) (fun d => ?_) (fun d => ?_) ?_
    case refine_3 =>
      pointwise [X0_2_apply]
      blk_ext [idx t]
    case refine_9 => exact Fin.ext (by blk_simp [idx t]; omega)
    all_goals blk_point [iblk, idx t]
  · obtain ⟨r, d, rfl⟩ : ∃ r d, x = ix2 r d := ⟨_, _, eq_ix2 x⟩
    have hy0 : (y 0 : ℕ) = r.val := h0
    have hy1 : (y 1 : ℕ) = d.val := h1
    refine (first_apply _ _ _ _ _ _ _ _ r d).trans ?_
    refine rowOut_congr (fun e => ?_) (fun e => ?_) (fun e => ?_) (fun e => ?_) (fun e d => ?_) (fun d => ?_) (fun d => ?_) (fun d => ?_) ?_
    case refine_3 =>
      pointwise [X0_2_apply]
      blk_ext [idx t]
    case refine_9 => exact Fin.ext (by blk_simp [idx t]; omega)
    all_goals blk_point [iblk, idx t]

/-- The narrow result's array after the run. -/
theorem final9 (c : Dev nD) : (dats m 0 c).arrAt 9 (cfgs 0).N
    = Cert.Kernel4Ideal.Value.res (V m c main_arg0) (V m c main_arg1) (V m c main_arg2) (V m c main_v0) (V m c main_v1) (V m c main_arg5) (V m c main_v2) (V m c main_v3) := by
  refine (dats m 0 c).arrAt_eq_of_covers 9 _ (by decide +kernel) fun t _ y => ?_
  blk_simp
  rw [after0_9]; unfold outsAt0; frame_out
  canon_tiles x h
  · obtain ⟨r, d, rfl⟩ : ∃ r d, x = ix2 r d := ⟨_, _, eq_ix2 x⟩
    have hy0 : (y 0 : ℕ) = 256 + r.val := h0
    have hy1 : (y 1 : ℕ) = d.val := h1
    refine (second_narrow _ _ _ _ _ _ _ _ r d).trans ?_
    refine rowOut_congr (fun e => ?_) (fun e => ?_) (fun e => ?_) (fun e => ?_) (fun e d => ?_) (fun d => ?_) (fun d => ?_) (fun d => ?_) ?_
    case refine_3 =>
      pointwise [X0_2_apply]
      blk_ext [idx t]
    case refine_9 => exact Fin.ext (by blk_simp [idx t]; omega)
    all_goals blk_point [iblk, idx t]
  · obtain ⟨r, d, rfl⟩ : ∃ r d, x = ix2 r d := ⟨_, _, eq_ix2 x⟩
    have hy0 : (y 0 : ℕ) = r.val := h0
    have hy1 : (y 1 : ℕ) = d.val := h1
    refine (first_narrow _ _ _ _ _ _ _ _ r d).trans ?_
    refine rowOut_congr (fun e => ?_) (fun e => ?_) (fun e => ?_) (fun e => ?_) (fun e d => ?_) (fun d => ?_) (fun d => ?_) (fun d => ?_) ?_
    case refine_3 =>
      pointwise [X0_2_apply]
      blk_ext [idx t]
    case refine_9 => exact Fin.ext (by blk_simp [idx t]; omega)
    all_goals blk_point [iblk, idx t]

/-- The arrays that the region finds, from the arguments. -/
theorem V_all (c : Dev nD) :
    Cert.Kernel4Ideal.Value.res (V m c main_arg0) (V m c main_arg1) (V m c main_arg2) (V m c main_v0) (V m c main_v1) (V m c main_arg5) (V m c main_v2) (V m c main_v3)
    = Cert.Kernel4Ideal.Value.res (m ((c : Thread nD τ).loc main_arg0)) (m ((c : Thread nD τ).loc main_arg1)) (m ((c : Thread nD τ).loc main_arg2))
        (shapeCast S1x1024 (m ((c : Thread nD τ).loc main_arg3)) shapeCasts_S1024_S1x1024)
        (truncf (F := Ideal) (φ := .f32) .bf16 (m ((c : Thread nD τ).loc main_arg4)) bitsLt_bf16_f32) (m ((c : Thread nD τ).loc main_arg5))
        (shapeCast S1x2048 (m ((c : Thread nD τ).loc main_arg6)) shapeCasts_S2048_S1x2048)
        (shapeCast S1x2048 (m ((c : Thread nD τ).loc main_arg7)) shapeCasts_S2048_S1x2048) := by
  unfold V
  sl_kernel_rfl

end Cert.Kernel7Ideal.Value

namespace Cert.OutProj2
open Cert.OutProj Cert.Reference7Ideal Cert.Reference7Ideal.Gen Cert.Reference7Ideal.Read
variable (x0 x1 : FVec Ideal S16384x1024 .bf16) (x2 : FVec Ideal S16384x3584 .bf16) (x3 : FVec Ideal S1024 .f32) (x4 : FVec Ideal S2048x2048 .f32)
  (x5 : FVec Ideal S16384x2048 .f32) (x6 x7 : FVec Ideal S2048 .f32)

/-- The reference's wide result is that of the form with one result. -/
theorem wide_eq4 : val_main_v47 (F := Ideal) x0 x1 x2 x3 x4 x5 x6 x7 = Cert.Reference4Ideal.Read.val_main_v47 (F := Ideal) x0 x1 x2 x3 x4 x5 x6 x7 := rfl

/-- The reference's narrow result is the same over the reals. -/
theorem narrow_eq4 : val_main_v48 (F := Ideal) x0 x1 x2 x3 x4 x5 x6 x7 = Cert.Reference4Ideal.Read.val_main_v47 (F := Ideal) x0 x1 x2 x3 x4 x5 x6 x7 := rfl

/-- The rows of the result, from the arguments as the host prepares them, are the reference's. -/
theorem res_eq : Cert.Kernel4Ideal.Value.res x0 x1 x2 (shapeCast Cert.Kernel7Ideal.S1x1024 x3 Cert.Kernel7Ideal.Gen.shapeCasts_S1024_S1x1024)
    (truncf (F := Ideal) (φ := .f32) .bf16 x4 Cert.Kernel7Ideal.Gen.bitsLt_bf16_f32) x5
    (shapeCast Cert.Kernel7Ideal.S1x2048 x6 Cert.Kernel7Ideal.Gen.shapeCasts_S2048_S1x2048)
    (shapeCast Cert.Kernel7Ideal.S1x2048 x7 Cert.Kernel7Ideal.Gen.shapeCasts_S2048_S1x2048)
    = Cert.Reference4Ideal.Read.val_main_v47 (F := Ideal) x0 x1 x2 x3 x4 x5 x6 x7 := by
  funext i
  refine Eq.trans ?_ ((Cert.OutProj.row_ref x0 x1 x2 x3 x4 x5 x6 x7 (i 0) (i 1)).symm.trans (congrArg _ (eq_ix2 i).symm))
  refine rowOut_congr (fun e => ?_) (fun e => ?_) (fun e => ?_) (fun e => ?_) (fun e d => ?_) (fun d => ?_) (fun d => ?_) (fun d => ?_) rfl
  all_goals pointwise

/-- The wide array that the kernel leaves is the reference's result. -/
theorem final_eq8 (m : (ℓ : Loc Cert.Kernel7Ideal.nD Cert.Kernel7Ideal.τ Cert.Kernel7Ideal.sig) → Buf (Elt Ideal) ℓ) (c : Dev Cert.Kernel7Ideal.nD) :
    (Cert.Kernel7Ideal.Gen.dats m 0 c).arrAt 8 (Cert.Kernel7Ideal.cfgs 0).N = val_main_v47 (F := Ideal)
      (m ((c : Thread Cert.Kernel7Ideal.nD Cert.Kernel7Ideal.τ).loc Cert.Kernel7Ideal.main_arg0))
      (m ((c : Thread Cert.Kernel7Ideal.nD Cert.Kernel7Ideal.τ).loc Cert.Kernel7Ideal.main_arg1))
      (m ((c : Thread Cert.Kernel7Ideal.nD Cert.Kernel7Ideal.τ).loc Cert.Kernel7Ideal.main_arg2))
      (m ((c : Thread Cert.Kernel7Ideal.nD Cert.Kernel7Ideal.τ).loc Cert.Kernel7Ideal.main_arg3))
      (m ((c : Thread Cert.Kernel7Ideal.nD Cert.Kernel7Ideal.τ).loc Cert.Kernel7Ideal.main_arg4))
      (m ((c : Thread Cert.Kernel7Ideal.nD Cert.Kernel7Ideal.τ).loc Cert.Kernel7Ideal.main_arg5))
      (m ((c : Thread Cert.Kernel7Ideal.nD Cert.Kernel7Ideal.τ).loc Cert.Kernel7Ideal.main_arg6))
      (m ((c : Thread Cert.Kernel7Ideal.nD Cert.Kernel7Ideal.τ).loc Cert.Kernel7Ideal.main_arg7)) :=
  (Cert.Kernel7Ideal.Value.final8 m c).trans ((Cert.Kernel7Ideal.Value.V_all m c).trans
    ((res_eq _ _ _ _ _ _ _ _).trans (wide_eq4 _ _ _ _ _ _ _ _).symm))

/-- The narrow array that the kernel leaves is the reference's result. -/
theorem final_eq9 (m : (ℓ : Loc Cert.Kernel7Ideal.nD Cert.Kernel7Ideal.τ Cert.Kernel7Ideal.sig) → Buf (Elt Ideal) ℓ) (c : Dev Cert.Kernel7Ideal.nD) :
    (Cert.Kernel7Ideal.Gen.dats m 0 c).arrAt 9 (Cert.Kernel7Ideal.cfgs 0).N = val_main_v48 (F := Ideal)
      (m ((c : Thread Cert.Kernel7Ideal.nD Cert.Kernel7Ideal.τ).loc Cert.Kernel7Ideal.main_arg0))
      (m ((c : Thread Cert.Kernel7Ideal.nD Cert.Kernel7Ideal.τ).loc Cert.Kernel7Ideal.main_arg1))
      (m ((c : Thread Cert.Kernel7Ideal.nD Cert.Kernel7Ideal.τ).loc Cert.Kernel7Ideal.main_arg2))
      (m ((c : Thread Cert.Kernel7Ideal.nD Cert.Kernel7Ideal.τ).loc Cert.Kernel7Ideal.main_arg3))
      (m ((c : Thread Cert.Kernel7Ideal.nD Cert.Kernel7Ideal.τ).loc Cert.Kernel7Ideal.main_arg4))
      (m ((c : Thread Cert.Kernel7Ideal.nD Cert.Kernel7Ideal.τ).loc Cert.Kernel7Ideal.main_arg5))
      (m ((c : Thread Cert.Kernel7Ideal.nD Cert.Kernel7Ideal.τ).loc Cert.Kernel7Ideal.main_arg6))
      (m ((c : Thread Cert.Kernel7Ideal.nD Cert.Kernel7Ideal.τ).loc Cert.Kernel7Ideal.main_arg7)) :=
  (Cert.Kernel7Ideal.Value.final9 m c).trans ((Cert.Kernel7Ideal.Value.V_all m c).trans
    ((res_eq _ _ _ _ _ _ _ _).trans (narrow_eq4 _ _ _ _ _ _ _ _).symm))

end Cert.OutProj2
-- ==== Proof.InProj.lean ====
/- The first projection (queries, gates, keys and values from the normalised activations): the array that the kernel
   leaves after its run is the reference's, element by element. Both are one matrix product; the kernel permutes the
   columns of the weights before it, the reference permutes the columns of the result. -/
module

public import proofs.«01_k».proof.Proof.Gen.Kernel2Ideal.Value
public import proofs.«01_k».proof.Proof.Gen.Reference2Ideal.Read
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProj

/-- The octet of rotary lanes that stands at place `o` of a head once a pair of heads is laid out octet by octet: the
    even octet of the second group comes fifth. -/
def octet (o : ℕ) : ℕ := if o = 0 then 0 else if o < 4 then o + 1 else if o = 4 then 1 else o

/-- Column of a `pairs`-arranged matrix, as a column of the matrix it was arranged from: pair, octet, head of the pair,
    lane. -/
def pairCol (e : ℕ) : ℕ := e / 128 * 128 + e / 8 % 2 * 64 + octet (e / 16 % 8) * 8 + e % 8

/-- The octet of a slot is one of the eight. -/
theorem octet_lt (o : ℕ) (h : o < 8) : octet o < 8 := by
  unfold octet; split_ifs <;> omega

/-- The arrangement stays inside a block of whole pairs. -/
theorem pairCol_lt (n e : ℕ) (h : e < 128 * n) : pairCol e < 128 * n := by
  have h8 : octet (e / 16 % 8) < 8 := octet_lt _ (by omega)
  unfold pairCol; omega

/-- Where column `e` of the projection comes from among the columns of the input weights. -/
def srcCol (e : ℕ) : ℕ :=
  if e < 1024 then pairCol e
  else if e < 2048 then 1536 + (e - 1024)
  else if e < 3072 then 5632 + (e - 2048)
  else if e < 3328 then 1024 + pairCol (e - 3072)
  else 1280 + (e - 3328)

/-- The column that the arrangement takes lies within the weights. -/
theorem srcCol_lt (e : Fin 3584) : srcCol e < 6656 := by
  have h8 : octet (e / 16 % 8) < 8 := octet_lt _ (by omega)
  have h9 : octet ((e - 3072) / 16 % 8) < 8 := octet_lt _ (by omega)
  unfold srcCol pairCol; split_ifs <;> omega

end Cert.InProj

namespace Cert.Kernel2Ideal.Value
open Cert.Kernel2Ideal Cert.Kernel2Ideal.Gen Cert.InProj

variable (m : (ℓ : Loc nD τ sig) → Buf (Elt Ideal) ℓ)

/-- The eight octets of the query columns, side by side in the order of their places. -/
def catQ (y : FVec Ideal S2048x8x2x8x8 .f32) : FVec Ideal S2048x8x2x8x8 .f32 :=
  concatenate S2048x8x2x8x8 3
    [⟨S2048x8x2x1x8, extractStridedSlice S2048x8x2x1x8 ![0, 0, 0, 0, 0] y slices_S2048x8x2x8x8_S2048x8x2x1x8_0_0_0_0_0⟩,
     ⟨S2048x8x2x1x8, extractStridedSlice S2048x8x2x1x8 ![0, 0, 0, 2, 0] y slices_S2048x8x2x8x8_S2048x8x2x1x8_0_0_0_2_0⟩,
     ⟨S2048x8x2x1x8, extractStridedSlice S2048x8x2x1x8 ![0, 0, 0, 3, 0] y slices_S2048x8x2x8x8_S2048x8x2x1x8_0_0_0_3_0⟩,
     ⟨S2048x8x2x1x8, extractStridedSlice S2048x8x2x1x8 ![0, 0, 0, 4, 0] y slices_S2048x8x2x8x8_S2048x8x2x1x8_0_0_0_4_0⟩,
     ⟨S2048x8x2x1x8, extractStridedSlice S2048x8x2x1x8 ![0, 0, 0, 1, 0] y slices_S2048x8x2x8x8_S2048x8x2x1x8_0_0_0_1_0⟩,
     ⟨S2048x8x2x1x8, extractStridedSlice S2048x8x2x1x8 ![0, 0, 0, 5, 0] y slices_S2048x8x2x8x8_S2048x8x2x1x8_0_0_0_5_0⟩,
     ⟨S2048x8x2x1x8, extractStridedSlice S2048x8x2x1x8 ![0, 0, 0, 6, 0] y slices_S2048x8x2x8x8_S2048x8x2x1x8_0_0_0_6_0⟩,
     ⟨S2048x8x2x1x8, extractStridedSlice S2048x8x2x1x8 ![0, 0, 0, 7, 0] y slices_S2048x8x2x8x8_S2048x8x2x1x8_0_0_0_7_0⟩]
    concatenates_S2048x8x2x1x8_S2048x8x2x1x8_S2048x8x2x1x8_S2048x8x2x1x8_S2048x8x2x1x8_S2048x8x2x1x8_S2048x8x2x1x8_S2048x8x2x1x8_S2048x8x2x8x8_d3

/-- The query weights' octets, put in the kernel's order, at an index. -/
theorem catQ_apply (y : FVec Ideal S2048x8x2x8x8 .f32) (k : Fin 2048) (p : Fin 8) (q : Fin 2) (o l : Fin 8) :
    catQ y (ix5 k p q o l) = y (ix5 k p q ⟨octet o, octet_lt o o.isLt⟩ l) := by
  pointwise [catQ]
  fin_vals o with ho
  all_goals simp only [ho, Nat.reduceSub, Nat.reduceLT, ↓reduceDIte]
  all_goals (refine congrArg y (congrArg (fun z => ix5 k p q z l) (Fin.ext ?_)); simp [octet, ho])

/-- The eight octets of the key columns, side by side in the order of their places. -/
def catK (y : FVec Ideal S2048x2x2x8x8 .f32) : FVec Ideal S2048x2x2x8x8 .f32 :=
  concatenate S2048x2x2x8x8 3
    [⟨S2048x2x2x1x8, extractStridedSlice S2048x2x2x1x8 ![0, 0, 0, 0, 0] y slices_S2048x2x2x8x8_S2048x2x2x1x8_0_0_0_0_0⟩,
     ⟨S2048x2x2x1x8, extractStridedSlice S2048x2x2x1x8 ![0, 0, 0, 2, 0] y slices_S2048x2x2x8x8_S2048x2x2x1x8_0_0_0_2_0⟩,
     ⟨S2048x2x2x1x8, extractStridedSlice S2048x2x2x1x8 ![0, 0, 0, 3, 0] y slices_S2048x2x2x8x8_S2048x2x2x1x8_0_0_0_3_0⟩,
     ⟨S2048x2x2x1x8, extractStridedSlice S2048x2x2x1x8 ![0, 0, 0, 4, 0] y slices_S2048x2x2x8x8_S2048x2x2x1x8_0_0_0_4_0⟩,
     ⟨S2048x2x2x1x8, extractStridedSlice S2048x2x2x1x8 ![0, 0, 0, 1, 0] y slices_S2048x2x2x8x8_S2048x2x2x1x8_0_0_0_1_0⟩,
     ⟨S2048x2x2x1x8, extractStridedSlice S2048x2x2x1x8 ![0, 0, 0, 5, 0] y slices_S2048x2x2x8x8_S2048x2x2x1x8_0_0_0_5_0⟩,
     ⟨S2048x2x2x1x8, extractStridedSlice S2048x2x2x1x8 ![0, 0, 0, 6, 0] y slices_S2048x2x2x8x8_S2048x2x2x1x8_0_0_0_6_0⟩,
     ⟨S2048x2x2x1x8, extractStridedSlice S2048x2x2x1x8 ![0, 0, 0, 7, 0] y slices_S2048x2x2x8x8_S2048x2x2x1x8_0_0_0_7_0⟩]
    concatenates_S2048x2x2x1x8_S2048x2x2x1x8_S2048x2x2x1x8_S2048x2x2x1x8_S2048x2x2x1x8_S2048x2x2x1x8_S2048x2x2x1x8_S2048x2x2x1x8_S2048x2x2x8x8_d3

/-- The key weights' octets, put in the kernel's order, at an index. -/
theorem catK_apply (y : FVec Ideal S2048x2x2x8x8 .f32) (k : Fin 2048) (p : Fin 2) (q : Fin 2) (o l : Fin 8) :
    catK y (ix5 k p q o l) = y (ix5 k p q ⟨octet o, octet_lt o o.isLt⟩ l) := by
  pointwise [catK]
  fin_vals o with ho
  all_goals simp only [ho, Nat.reduceSub, Nat.reduceLT, ↓reduceDIte]
  all_goals (refine congrArg y (congrArg (fun z => ix5 k p q z l) (Fin.ext ?_)); simp [octet, ho])

/-- The query columns, pair by pair and octet by octet. -/
def arrangeQ (w : FVec Ideal S2048x1024 .f32) : FVec Ideal S2048x1024 .f32 :=
  shapeCast S2048x1024 (transpose S2048x8x8x2x8 [0, 1, 3, 2, 4] (catQ (shapeCast S2048x8x2x8x8 w shapeCasts_S2048x1024_S2048x8x2x8x8))
    transposes_S2048x8x2x8x8_S2048x8x8x2x8_0_1_3_2_4) shapeCasts_S2048x8x8x2x8_S2048x1024

/-- The key columns, pair by pair and octet by octet. -/
def arrangeK (w : FVec Ideal S2048x256 .f32) : FVec Ideal S2048x256 .f32 :=
  shapeCast S2048x256 (transpose S2048x2x8x2x8 [0, 1, 3, 2, 4] (catK (shapeCast S2048x2x2x8x8 w shapeCasts_S2048x256_S2048x2x2x8x8))
    transposes_S2048x2x2x8x8_S2048x2x8x2x8_0_1_3_2_4) shapeCasts_S2048x2x8x2x8_S2048x256

/-- The arranged query weights at an index. -/
theorem arrangeQ_apply (w : FVec Ideal S2048x1024 .f32) (k : Fin 2048) (e : Fin 1024) :
    arrangeQ w (ix2 k e) = w (ix2 k ⟨pairCol e, pairCol_lt 8 e (by omega)⟩) := by
  pointwise [arrangeQ, catQ_apply]
  have h8 : octet (e / 16 % 8) < 8 := octet_lt _ (by omega)
  blk_ext [pairCol]

/-- The arranged key weights at an index. -/
theorem arrangeK_apply (w : FVec Ideal S2048x256 .f32) (k : Fin 2048) (e : Fin 256) :
    arrangeK w (ix2 k e) = w (ix2 k ⟨pairCol e, pairCol_lt 2 e (by omega)⟩) := by
  pointwise [arrangeK, catK_apply]
  have h8 : octet (e / 16 % 8) < 8 := octet_lt _ (by omega)
  blk_ext [pairCol]

/-- The weights of the product: queries, gates, keys and values, one after the other. -/
def plain (w : FVec Ideal S2048x6656 .f32) : FVec Ideal S2048x3584 .bf16 :=
  truncf .bf16 (concatenate S2048x3584 1
    [⟨S2048x1024, arrangeQ (extractStridedSlice S2048x1024 ![0, 0] w slices_S2048x6656_S2048x1024_0_0)⟩,
     ⟨S2048x1024, extractStridedSlice S2048x1024 ![0, 1536] w slices_S2048x6656_S2048x1024_0_1536⟩,
     ⟨S2048x1024, extractStridedSlice S2048x1024 ![0, 5632] w slices_S2048x6656_S2048x1024_0_5632⟩,
     ⟨S2048x256, arrangeK (extractStridedSlice S2048x256 ![0, 1024] w slices_S2048x6656_S2048x256_0_1024)⟩,
     ⟨S2048x256, extractStridedSlice S2048x256 ![0, 1280] w slices_S2048x6656_S2048x256_0_1280⟩]
    concatenates_S2048x1024_S2048x1024_S2048x1024_S2048x256_S2048x256_S2048x3584_d1) bitsLt_bf16_f32

/-- The arranged weights at an index: one column of the layer's input weights. -/
theorem plain_apply (w : FVec Ideal S2048x6656 .f32) (k : Fin 2048) (e : Fin 3584) :
    plain w (ix2 k e) = w (ix2 k ⟨srcCol e, srcCol_lt e⟩) := by
  pointwise [plain, arrangeQ_apply, arrangeK_apply]
  simp only [Nat.sub_sub, Nat.reduceAdd]
  split_ifs <;> (refine congrArg w (congrArg (ix2 k) (Fin.ext ?_)); dsimp only; unfold srcCol; split_ifs <;> omega)

/-- What the host line leaves in the weights' buffer. -/
theorem weights_eq (c : Dev nD) :
    V m c main_v31 = plain (m ((c : Thread nD τ).loc main_arg1)) := by
  unfold V
  sl_kernel_rfl

/-- The windows' block indices at every grid point. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- Activations times weights. -/
def prod (x : FVec Ideal S16384x2048 .bf16) (w : FVec Ideal S2048x3584 .bf16) : FVec Ideal S16384x3584 .bf16 :=
  fun i => ∑ k : Fin 2048, x (ix2 (i 0) k) * w (ix2 k (i 1))

/-- The result array after the run. -/
theorem final (c : Dev nD) : (dats m 0 c).arrAt 2 (cfgs 0).N
    = prod (m ((c : Thread nD τ).loc main_arg0)) (V m c main_v31) := by
  refine (dats m 0 c).arrAt_eq_of_covers 2 _ (by decide +kernel) fun t _ y => ?_
  blk_simp
  rw [after0_2]; frame_out
  pointwise [k0_pay1, prod]
  blk_point [iblk, idx t]

end Cert.Kernel2Ideal.Value

namespace Cert.Reference2Ideal.Read
open Cert.Reference2Ideal Cert.Reference2Ideal.Gen Cert.InProj

/-- The query columns of the reference's result. -/
theorem pairsQ_apply (x : FVec Ideal S16384x2048 .bf16) (w : FVec Ideal S2048x6656 .f32) (t : Fin 16384) (e : Fin 1024) :
    val_main_v14 (F := Ideal) x w (ix2 t e) = val_main_v2 (F := Ideal) x w (ix2 t ⟨pairCol e, pairCol_lt 8 e (by omega)⟩) := by
  pointwise [val_main_v14, val_main_v13, val_main_v12, val_main_v11, val_main_v10, val_main_v9, val_main_v8, val_main_v7]
  split_ifs
  all_goals refine congrArg (val_main_v2 (F := Ideal) x w) (congrArg (ix2 t) (Fin.ext ?_))
  all_goals dsimp only
  all_goals unfold pairCol octet
  all_goals split_ifs <;> omega

/-- The key columns of the reference's result. -/
theorem pairsK_apply (x : FVec Ideal S16384x2048 .bf16) (w : FVec Ideal S2048x6656 .f32) (t : Fin 16384) (e : Fin 256) :
    val_main_v22 (F := Ideal) x w (ix2 t e) = val_main_v3 (F := Ideal) x w (ix2 t ⟨pairCol e, pairCol_lt 2 e (by omega)⟩) := by
  pointwise [val_main_v22, val_main_v21, val_main_v20, val_main_v19, val_main_v18, val_main_v17, val_main_v16, val_main_v15]
  split_ifs
  all_goals refine congrArg (val_main_v3 (F := Ideal) x w) (congrArg (ix2 t) (Fin.ext ?_))
  all_goals dsimp only
  all_goals unfold pairCol octet
  all_goals split_ifs <;> omega

/-- The reference's result, read at an index: one column of the product with the input weights. -/
theorem result_apply (x : FVec Ideal S16384x2048 .bf16) (w : FVec Ideal S2048x6656 .f32) (t : Fin 16384) (e : Fin 3584) :
    val_main_v24 (F := Ideal) x w (ix2 t e) = ∑ k : Fin 2048, x (ix2 t k) * w (ix2 k ⟨srcCol e, srcCol_lt e⟩) := by
  have h : val_main_v24 (F := Ideal) x w (ix2 t e) = val_main_v1 (F := Ideal) x w (ix2 t ⟨srcCol e, srcCol_lt e⟩) := by
    pointwise [val_main_v24, val_main_v23, pairsQ_apply, pairsK_apply, val_main_v2, val_main_v3, val_main_v4, val_main_v5, val_main_v6]
    simp only [Nat.sub_sub, Nat.reduceAdd]
    split_ifs
    all_goals refine congrArg (val_main_v1 (F := Ideal) x w) (congrArg (ix2 t) (Fin.ext ?_))
    all_goals dsimp only
    all_goals unfold srcCol
    all_goals split_ifs <;> omega
  rw [h]
  pointwise [val_main_v1, val_main_v0]

end Cert.Reference2Ideal.Read

namespace Cert.InProj
open Cert.Kernel2Ideal.Gen

/-- The array that the kernel leaves is the reference's result. -/
theorem final_eq (m : (ℓ : Loc Cert.Kernel2Ideal.nD Cert.Kernel2Ideal.τ Cert.Kernel2Ideal.sig) → Buf (Elt Ideal) ℓ) (c : Dev Cert.Kernel2Ideal.nD) :
    (dats m 0 c).arrAt 2 (Cert.Kernel2Ideal.cfgs 0).N = Cert.Reference2Ideal.Read.val_main_v24 (F := Ideal)
      (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1)) := by
  rw [Cert.Kernel2Ideal.Value.final, Cert.Kernel2Ideal.Value.weights_eq]
  funext i
  refine Eq.trans ?_ ((Cert.Reference2Ideal.Read.result_apply _ _ (i 0) (i 1)).symm.trans (congrArg _ (eq_ix2 i).symm))
  exact Finset.sum_congr rfl fun k _ => congrArg _ (Cert.Kernel2Ideal.Value.plain_apply _ k (i 1))

end Cert.InProj
-- ==== Proof.ProjConv.lean ====
/- The input projection of the Hyena columns with the short convolution along the positions. The kernel keeps the product of a
   block's rows, and of the rows around it, in a scratch, sets the rows across a sequence's ends to zero there, and adds three
   shifted products; the reference pads the product with zeros. Both are read as `conv` of three rows of the product. -/
module
public import proofs.«01_k».proof.Proof.Gen.Kernel3Ideal.Value
public import proofs.«01_k».proof.Proof.Gen.Reference3Ideal.Read
public import Idealize.ShloMosaic.Lib.Claim
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)

namespace Cert.ProjConv

/-- The short convolution at one position: the row before, the row itself and the row after, with their taps. -/
def conv (before here after w0 w1 w2 b : EReal) : EReal := before * w0 + here * w1 + after * w2 + b

end Cert.ProjConv

namespace Cert.Kernel3Ideal.Value
open Cert.Kernel3Ideal Cert.Kernel3Ideal.Gen Cert.ProjConv
variable (m : (ℓ : Loc nD τ sig) → Buf (Elt Ideal) ℓ)

/-- One chunk of rows, from the 272 rows of the product around it. -/
theorem pay1_apply (w0 w1 w2 b : Vec Ideal S1x1536 .f32) (x : Vec Ideal S272x1536 .f32) (r : Fin 256) (e : Fin 1536) :
    k0_pay1 (F := Ideal) w0 w1 w2 b x (ix2 r e)
      = conv (x (ix2 ⟨7 + r, by omega⟩ e)) (x (ix2 ⟨8 + r, by omega⟩ e)) (x (ix2 ⟨9 + r, by omega⟩ e))
        (w0 (ix2 0 e)) (w1 (ix2 0 e)) (w2 (ix2 0 e)) (b (ix2 0 e)) := by
  pointwise [k0_pay1]
  unfold conv
  refine congrArg (· + _) (congrArg₂ (· + ·) (congrArg (· + _) (congrArg (· * _) ?_)) (congrArg (· * _) ?_))
  all_goals exact congrArg x (congrArg (fun z => ix2 z e) (Fin.ext (by dsimp only; omega)))

/-- The first chunk, whose arithmetic is cut in three. -/
theorem pay8_eq (w0 w1 w2 b : Vec Ideal S1x1536 .f32) (x : Vec Ideal S272x1536 .f32) :
    k0_pay8 (F := Ideal) (k0_pay5 b) (k0_pay6 w0 w1 x) (k0_pay7 w2 x) = k0_pay1 w0 w1 w2 (k0_pay5 b) x := rfl

/-- The second chunk's arithmetic is the fourth's. -/
theorem pay9_eq (w0 w1 w2 b : Vec Ideal S1x1536 .f32) (x : Vec Ideal S272x1536 .f32) :
    k0_pay9 (F := Ideal) w0 w1 w2 b x = k0_pay1 w0 w1 w2 b x := rfl

/-- The third chunk's arithmetic is the fourth's. -/
theorem pay10_eq (w0 w1 w2 b : Vec Ideal S1x1536 .f32) (x : Vec Ideal S272x1536 .f32) :
    k0_pay10 (F := Ideal) w0 w1 w2 b x = k0_pay1 w0 w1 w2 b x := rfl

/-- The kernel's test of a row's number for a multiple of the sequence length. -/
def edge (a : BitVec 32) : BitVec 1 :=
  let n := Scalar.select (Scalar.cmpi .eq 2048#32 0#32) 1#32 2048#32
  let q := Scalar.remsi a n
  Scalar.cmpi .eq (Scalar.select (Scalar.andi (Scalar.xori (Scalar.cmpi .slt q 0#32) (Scalar.cmpi .slt n 0#32)) (Scalar.cmpi .ne q 0#32))
    (Scalar.addi q n) q) 0#32

/-- A block's first row starts a sequence at every second block. -/
theorem edge_first : ∀ a : Fin 16, edge (Scalar.muli (BitVec.ofNat 32 a.val) 1024#32) = if a.val % 2 = 0 then 1#1 else 0#1 := by decide

/-- The row after a block starts a sequence at every other second block. -/
theorem edge_last : ∀ a : Fin 16, edge (Scalar.muli (Scalar.addi (BitVec.ofNat 32 a.val) 1#32) 1024#32) = if a.val % 2 = 1 then 1#1 else 0#1 := by decide

/-- The rows before a block, zero at the start of a sequence. -/
theorem pay3_apply (i : grid0.Coords) (b : Vec Ideal S8x1536 .f32) (y : S8x1536.Idx) :
    k0_pay3 (F := Ideal) i b y = if (i 0).val % 2 = 0 then 0 else b y := by
  pointwise [k0_pay3]
  have h : edge (Scalar.muli (BitVec.ofNat 32 (i 0).val) 1024#32) = _ := edge_first (i 0)
  show Scalar.select (edge (Scalar.muli (BitVec.ofNat 32 (i 0).val) 1024#32)) 0 (b y) = _
  rw [h]
  unfold Scalar.select
  by_cases hp : (i 0).val % 2 = 0
  · rw [if_pos hp, if_pos hp]
    exact if_pos rfl
  · rw [if_neg hp, if_neg hp, if_neg (by decide)]

/-- The rows after a block, zero at the end of a sequence. -/
theorem pay4_apply (i : grid0.Coords) (b : Vec Ideal S8x1536 .f32) (y : S8x1536.Idx) :
    k0_pay4 (F := Ideal) (BitVec.ofNat 32 (i 0).val) b 1#32 y = if (i 0).val % 2 = 1 then 0 else b y := by
  pointwise [k0_pay4]
  have h : edge (Scalar.muli (Scalar.addi (BitVec.ofNat 32 (i 0).val) 1#32) 1024#32) = _ := edge_last (i 0)
  show Scalar.select (edge (Scalar.muli (Scalar.addi (BitVec.ofNat 32 (i 0).val) 1#32) 1024#32)) 0 (b y) = _
  rw [h]
  unfold Scalar.select
  by_cases hp : (i 0).val % 2 = 1
  · rw [if_pos hp, if_pos hp]
    exact if_pos rfl
  · rw [if_neg hp, if_neg hp, if_neg (by decide)]

/-- The product's rows as the chunks read them, the rows across a sequence's ends set to zero. -/
def scr (i : ℕ) (R : Vec Ideal S1056x1536 .f32) : Vec Ideal S1056x1536 .f32 := fun y =>
  if 1040 ≤ (y 0).val ∧ (y 0).val < 1048 ∧ i % 2 = 1 then 0
  else if 8 ≤ (y 0).val ∧ (y 0).val < 16 ∧ i % 2 = 0 then 0 else R y

/-- Eight rows stored over earlier stores, at an index. -/
theorem canon_rows (o : ℕ) (inb : ∀ a, (![o, 0] : Fin 2 → ℕ) a + (![8, 1536] : Fin 2 → ℕ) a ≤ S1056x1536.size a) (w : Vec Ideal S8x1536 .f32)
    (L : List (View.Piece (Elt Ideal) S1056x1536 .f32)) (r : Fin 1056) (e : Fin 1536) :
    View.canon (⟨Rect.unit ![o, 0] ![8, 1536] inb, w⟩ :: L) (ix2 r e)
      = if h : o ≤ r.val ∧ r.val < o + 8 then w (ix2 ⟨r.val - o, by omega⟩ e) else View.canon L (ix2 r e) := by
  split_ifs with h
  · have hy : ix2 r e = (Rect.unit (s := S1056x1536) ![o, 0] ![8, 1536] inb).emb (ix2 ⟨r.val - o, by omega⟩ e) := by
      blk_ext
    rw [hy]
    exact View.canon_cons_emb (Rect.unit (s := S1056x1536) ![o, 0] ![8, 1536] inb) w L (ix2 ⟨r.val - o, by omega⟩ e)
  · refine View.canon_cons_of_not_mem _ _ fun hm => h ?_
    have hb := (Rect.mem_set_unit (s := S1056x1536) (off := ![o, 0]) (size := ![8, 1536]) (inb := inb) (i := ix2 r e)).mp hm (0 : Fin 2)
    exact ⟨hb.1, hb.2⟩

/-- Eight rows loaded, at an index. -/
theorem ld_rows (o : ℕ) (inb : ∀ a, (![o, 0] : Fin 2 → ℕ) a + (![8, 1536] : Fin 2 → ℕ) a ≤ S1056x1536.size a) (R : Vec Ideal S1056x1536 .f32)
    (k : Fin 8) (e : Fin 1536) (ho : o + k.val < 1056) :
    View.ld (Val := Elt Ideal) (e' := .f32) R (Rect.unit (s := S1056x1536) ![o, 0] ![8, 1536] inb) (ix2 k e) = R (ix2 ⟨o + k.val, ho⟩ e) := by
  show R ((Rect.unit (s := S1056x1536) ![o, 0] ![8, 1536] inb).emb (ix2 k e)) = _
  refine congrArg R ?_
  blk_ext

/-- The stores into the scratch leave the product's rows, the rows across a sequence's ends set to zero. -/
theorem canon_scr (i : grid0.Coords) (R : Vec Ideal S1056x1536 .f32) :
    View.canon (Val := Elt Ideal) (e := .f32) [⟨Rect.unit (s := S1056x1536) ![1040, 0] ![8, 1536] inb_S1056x1536_S8x1536_1040_0,
        k0_pay4 (BitVec.ofNat 32 (i 0).val) (View.ld R (Rect.unit (s := S1056x1536) ![1040, 0] ![8, 1536] inb_S1056x1536_S8x1536_1040_0)) 1#32⟩,
      ⟨Rect.unit (s := S1056x1536) ![8, 0] ![8, 1536] inb_S1056x1536_S8x1536_8_0,
        k0_pay3 i (View.ld R (Rect.unit (s := S1056x1536) ![8, 0] ![8, 1536] inb_S1056x1536_S8x1536_8_0))⟩,
      ⟨Rect.unit (s := S1056x1536) ![0, 0] ![1056, 1536] inb_S1056x1536_S1056x1536_0_0, R⟩] = scr (i 0).val R := by
  funext y
  obtain ⟨r, e, rfl⟩ : ∃ r e, y = ix2 r e := ⟨_, _, eq_ix2 y⟩
  rw [canon_rows, canon_rows]
  simp only [pay4_apply, pay3_apply]
  rw [View.canon_cons_unit_lit inb_S1056x1536_S1056x1536_0_0 R [] (by decide)]
  unfold scr
  show _ = (if 1040 ≤ r.val ∧ r.val < 1048 ∧ (i 0).val % 2 = 1 then 0 else if 8 ≤ r.val ∧ r.val < 16 ∧ (i 0).val % 2 = 0 then 0 else R (ix2 r e))
  split_ifs
  all_goals first | rfl | omega | skip
  all_goals
    refine (ld_rows _ _ R _ e (by dsimp only; omega)).trans (congrArg R (congrArg (fun z => ix2 z e) (Fin.ext ?_)))
    dsimp only
    omega

/-- A load of eight rows after one store of the whole scratch. -/
theorem load_fill (o : ℕ) (inb : ∀ a, (![o, 0] : Fin 2 → ℕ) a + (![8, 1536] : Fin 2 → ℕ) a ≤ S1056x1536.size a) (R : Vec Ideal S1056x1536 .f32) :
    (View.whole cc0_scratch0).readCov (Val := Elt Ideal) [⟨Rect.unit (s := S1056x1536) ![0, 0] ![1056, 1536] inb_S1056x1536_S1056x1536_0_0, R⟩]
      (Rect.unit (s := S1056x1536) ![o, 0] ![8, 1536] inb).toLoadRect
      = View.ld (Val := Elt Ideal) (e' := .f32) R (Rect.unit (s := S1056x1536) ![o, 0] ![8, 1536] inb) := by
  rw [View.readCov_eq_canon']
  funext j
  rw [View.canon_cons_unit_lit inb_S1056x1536_S1056x1536_0_0 R [] (by decide)]

/-- What a load of the scratch reads after the three stores. -/
theorem readCov_scr (i : grid0.Coords) (R : Vec Ideal S1056x1536 .f32) (B : LoadRect S1056x1536) :
    (View.whole cc0_scratch0).readCov (Val := Elt Ideal) [⟨Rect.unit (s := S1056x1536) ![1040, 0] ![8, 1536] inb_S1056x1536_S8x1536_1040_0,
        k0_pay4 (F := Ideal) (BitVec.ofNat 32 (i 0).val)
          ((View.whole cc0_scratch0).readCov (Val := Elt Ideal) [⟨Rect.unit (s := S1056x1536) ![8, 0] ![8, 1536] inb_S1056x1536_S8x1536_8_0,
              k0_pay3 (F := Ideal) i ((View.whole cc0_scratch0).readCov (Val := Elt Ideal) [⟨Rect.unit (s := S1056x1536) ![0, 0] ![1056, 1536] inb_S1056x1536_S1056x1536_0_0, R⟩]
                (Rect.unit (s := S1056x1536) ![8, 0] ![8, 1536] inb_S1056x1536_S8x1536_8_0).toLoadRect)⟩,
            ⟨Rect.unit (s := S1056x1536) ![0, 0] ![1056, 1536] inb_S1056x1536_S1056x1536_0_0, R⟩]
            (Rect.unit (s := S1056x1536) ![1040, 0] ![8, 1536] inb_S1056x1536_S8x1536_1040_0).toLoadRect) 1#32⟩,
      ⟨Rect.unit (s := S1056x1536) ![8, 0] ![8, 1536] inb_S1056x1536_S8x1536_8_0,
        k0_pay3 (F := Ideal) i ((View.whole cc0_scratch0).readCov (Val := Elt Ideal) [⟨Rect.unit (s := S1056x1536) ![0, 0] ![1056, 1536] inb_S1056x1536_S1056x1536_0_0, R⟩]
          (Rect.unit (s := S1056x1536) ![8, 0] ![8, 1536] inb_S1056x1536_S8x1536_8_0).toLoadRect)⟩,
      ⟨Rect.unit (s := S1056x1536) ![0, 0] ![1056, 1536] inb_S1056x1536_S1056x1536_0_0, R⟩] B = fun j => scr (i 0).val R (B.idx j) := by
  rw [View.readCov_eq_canon' _ _ B, ← canon_scr]
  simp (disch := decide) only [↓ View.readCov_skip, ↓ View.readCov_cons_toLoadRect]
  rw [load_fill, load_fill]

/-- The windows' block indices at every grid point. -/
theorem idx : ∀ t : Fin cfg0.N, win0_0.index t = ![t.val / 2 * 64 - 1, 0] ∧ win0_1.index t = ![t.val / 2, 0]
    ∧ win0_2.index t = ![min ((t.val / 2 + 1) * 64) 1023, 0] ∧ win0_3.index t = ![0, t.val % 2] ∧ win0_4.index t = ![0, t.val % 2] ∧ win0_5.index t = ![0, t.val % 2]
    ∧ win0_6.index t = ![t.val / 2, t.val % 2] ∧ (grid0.coords t 0).val = t.val / 2 :=
  (by decide +kernel : ∀ t : Fin grid0.N, _)

/-- One chunk of rows, read off the scratch, at an index. -/
theorem chunk (i : grid0.Coords) (o : ℕ) (inb : ∀ a, (![o, 0] : Fin 2 → ℕ) a + (![272, 1536] : Fin 2 → ℕ) a ≤ S1056x1536.size a)
    (w0 w1 w2 b : Vec Ideal S1x1536 .f32) (R : Vec Ideal S1056x1536 .f32) (r : Fin 256) (e : Fin 1536) (ho : o + 272 ≤ 1056) :
    k0_pay1 (F := Ideal) w0 w1 w2 (k0_pay5 b) ((View.whole cc0_scratch0).readCov (Val := Elt Ideal) [⟨Rect.unit (s := S1056x1536) ![1040, 0] ![8, 1536] inb_S1056x1536_S8x1536_1040_0,
        k0_pay4 (F := Ideal) (BitVec.ofNat 32 (i 0).val)
          ((View.whole cc0_scratch0).readCov (Val := Elt Ideal) [⟨Rect.unit (s := S1056x1536) ![8, 0] ![8, 1536] inb_S1056x1536_S8x1536_8_0,
              k0_pay3 (F := Ideal) i ((View.whole cc0_scratch0).readCov (Val := Elt Ideal) [⟨Rect.unit (s := S1056x1536) ![0, 0] ![1056, 1536] inb_S1056x1536_S1056x1536_0_0, R⟩]
                (Rect.unit (s := S1056x1536) ![8, 0] ![8, 1536] inb_S1056x1536_S8x1536_8_0).toLoadRect)⟩,
            ⟨Rect.unit (s := S1056x1536) ![0, 0] ![1056, 1536] inb_S1056x1536_S1056x1536_0_0, R⟩]
            (Rect.unit (s := S1056x1536) ![1040, 0] ![8, 1536] inb_S1056x1536_S8x1536_1040_0).toLoadRect) 1#32⟩,
      ⟨Rect.unit (s := S1056x1536) ![8, 0] ![8, 1536] inb_S1056x1536_S8x1536_8_0,
        k0_pay3 (F := Ideal) i ((View.whole cc0_scratch0).readCov (Val := Elt Ideal) [⟨Rect.unit (s := S1056x1536) ![0, 0] ![1056, 1536] inb_S1056x1536_S1056x1536_0_0, R⟩]
          (Rect.unit (s := S1056x1536) ![8, 0] ![8, 1536] inb_S1056x1536_S8x1536_8_0).toLoadRect)⟩,
      ⟨Rect.unit (s := S1056x1536) ![0, 0] ![1056, 1536] inb_S1056x1536_S1056x1536_0_0, R⟩] (Rect.unit (s := S1056x1536) ![o, 0] ![272, 1536] inb).toLoadRect) (ix2 r e)
      = conv (scr (i 0).val R (ix2 ⟨o + 7 + r, by omega⟩ e)) (scr (i 0).val R (ix2 ⟨o + 8 + r, by omega⟩ e)) (scr (i 0).val R (ix2 ⟨o + 9 + r, by omega⟩ e))
        (w0 (ix2 0 e)) (w1 (ix2 0 e)) (w2 (ix2 0 e)) (b (ix2 0 e)) := by
  rw [readCov_scr]
  have h (k : ℕ) (hk : k + r.val < 272) (hk' : o + k + r.val < 1056) : scr (i 0).val R ((Rect.unit (s := S1056x1536) ![o, 0] ![272, 1536] inb).idx (ix2 ⟨k + r, hk⟩ e))
      = scr (i 0).val R (ix2 ⟨o + k + r, hk'⟩ e) := by
    refine congrArg (scr (i 0).val R) (show (Rect.unit (s := S1056x1536) ![o, 0] ![272, 1536] inb).emb (ix2 ⟨k + r, hk⟩ e) = _ from ?_)
    blk_ext
  refine (pay1_apply _ _ _ _ _ r e).trans ?_
  rw [h 7 (by omega) (by omega), h 8 (by omega) (by omega), h 9 (by omega) (by omega)]
  unfold k0_pay5
  pointwise

/-- A row of the product of the activations and the weights. -/
def row (x : FVec Ideal S16384x2048 .bf16) (w : FVec Ideal S2048x3072 .bf16) (n : ℕ) (d : ℕ) : EReal :=
  if h : n < 16384 ∧ d < 3072 then ∑ k : Fin 2048, x (ix2 ⟨n, h.1⟩ k) * w (ix2 k ⟨d, h.2⟩) else 0

/-- The rows of the product in one block, the rows around it included. -/
theorem block_rows (c : Dev nD) (t : Fin cfg0.N) (r : Fin 1056) (e : Fin 1536) (n : ℕ) (hn : n < 16384) (hr : n + 16 = t.val / 2 * 1024 + r.val) :
    k0_pay2 (F := Ideal) (iblk m c 0 t) (iblk m c 1 t) (iblk m c 2 t) (iblk m c 3 t) (ix2 r e)
      = row (V m c main_arg0) (V m c main_v32) n (t.val % 2 * 1536 + e.val) := by
  have ht : t.val < 32 := lt_of_lt_of_eq t.isLt N_0
  pointwise [k0_pay2]
  unfold row
  rw [dif_pos ⟨hn, by omega⟩]
  refine Finset.sum_congr rfl fun k _ => congrArg₂ (· * ·) ?_ ?_
  · split_ifs
    all_goals blk_point [iblk, idx t]
  · blk_point [iblk, idx t]

/-- The result as a function of the arrays the kernel is given. -/
def res (x : FVec Ideal S16384x2048 .bf16) (w : FVec Ideal S2048x3072 .bf16) (cw : FVec Ideal S3x3072 .f32) (cb : FVec Ideal S1x3072 .f32) :
    FVec Ideal S16384x3072 .bf16 := fun i =>
  conv (if (i 0).val % 2048 = 0 then 0 else row x w ((i 0).val - 1) (i 1).val) (row x w (i 0).val (i 1).val)
    (if (i 0).val % 2048 = 2047 then 0 else row x w ((i 0).val + 1) (i 1).val) (cw (ix2 0 (i 1))) (cw (ix2 1 (i 1))) (cw (ix2 2 (i 1))) (cb (ix2 0 (i 1)))

/-- A row of the scratch inside a block. -/
theorem scr_here (c : Dev nD) (t : Fin cfg0.N) (q : Fin 1056) (e : Fin 1536) (n : ℕ) (hn : n < 16384) (hq : n + 16 = t.val / 2 * 1024 + q.val)
    (h₁ : 16 ≤ q.val) (h₂ : q.val < 1040) :
    scr (grid0.coords t 0).val (k0_pay2 (F := Ideal) (iblk m c 0 t) (iblk m c 1 t) (iblk m c 2 t) (iblk m c 3 t)) (ix2 q e)
      = row (V m c main_arg0) (V m c main_v32) n (t.val % 2 * 1536 + e.val) := by
  rw [← block_rows m c t q e n hn hq]
  unfold scr
  rw [if_neg (fun h => by have h' : 1040 ≤ q.val := h.1; omega), if_neg (fun h => by have h' : q.val < 16 := h.2.1; omega)]

/-- The row before a row of a block, zero where a sequence starts. -/
theorem scr_before (c : Dev nD) (t : Fin cfg0.N) (q : Fin 1056) (e : Fin 1536) (n : ℕ) (hn : n < 16384) (hq : n + 15 = t.val / 2 * 1024 + q.val)
    (h₁ : 15 ≤ q.val) (h₂ : q.val < 1039) :
    scr (grid0.coords t 0).val (k0_pay2 (F := Ideal) (iblk m c 0 t) (iblk m c 1 t) (iblk m c 2 t) (iblk m c 3 t)) (ix2 q e)
      = if n % 2048 = 0 then 0 else row (V m c main_arg0) (V m c main_v32) (n - 1) (t.val % 2 * 1536 + e.val) := by
  have hi : (grid0.coords t 0).val = t.val / 2 := by blk_simp [idx t]
  rw [hi]
  unfold scr
  rw [if_neg (fun h => by have h' : 1040 ≤ q.val := h.1; omega)]
  by_cases hz : n % 2048 = 0
  · rw [if_pos hz]
    exact if_pos ⟨show 8 ≤ q.val by omega, show q.val < 16 by omega, by omega⟩
  · rw [if_neg hz, if_neg (fun h => by have h' : q.val < 16 := h.2.1; have h'' := h.2.2; omega)]
    exact block_rows m c t q e (n - 1) (by omega) (by omega)

/-- The row after a row of a block, zero where a sequence ends. -/
theorem scr_after (c : Dev nD) (t : Fin cfg0.N) (q : Fin 1056) (e : Fin 1536) (n : ℕ) (hn : n < 16384) (hq : n + 17 = t.val / 2 * 1024 + q.val)
    (h₁ : 17 ≤ q.val) (h₂ : q.val < 1041) :
    scr (grid0.coords t 0).val (k0_pay2 (F := Ideal) (iblk m c 0 t) (iblk m c 1 t) (iblk m c 2 t) (iblk m c 3 t)) (ix2 q e)
      = if n % 2048 = 2047 then 0 else row (V m c main_arg0) (V m c main_v32) (n + 1) (t.val % 2 * 1536 + e.val) := by
  have hi : (grid0.coords t 0).val = t.val / 2 := by blk_simp [idx t]
  rw [hi]
  unfold scr
  by_cases hz : n % 2048 = 2047
  · rw [if_pos hz]
    exact if_pos ⟨show 1040 ≤ q.val by omega, show q.val < 1048 by omega, by omega⟩
  · rw [if_neg hz, if_neg (fun h => by have h' : 1040 ≤ q.val := h.1; have h'' := h.2.2; omega), if_neg (fun h => by have h' : q.val < 16 := h.2.1; omega)]
    exact block_rows m c t q e (n + 1) (by omega) (by omega)

/-- The short convolution at equal entries. -/
theorem conv_congr {a a' b b' d d' w0 w0' w1 w1' w2 w2' z z' : EReal} (h1 : a = a') (h2 : b = b') (h3 : d = d') (h4 : w0 = w0') (h5 : w1 = w1')
    (h6 : w2 = w2') (h7 : z = z') : conv a b d w0 w1 w2 z = conv a' b' d' w0' w1' w2' z' := by
  rw [h1, h2, h3, h4, h5, h6, h7]

set_option maxHeartbeats 4000000 in
/-- The result array after the whole grid. -/
theorem final (c : Dev nD) : (dats m 0 c).arrAt 6 (cfgs 0).N
    = res (V m c main_arg0) (V m c main_v32) (V m c main_arg2) (V m c main_v33) := by
  refine (dats m 0 c).arrAt_eq_of_covers 6 _ (by decide +kernel) fun t _ y => ?_
  have ht : t.val < 32 := lt_of_lt_of_eq t.isLt N_0
  blk_simp
  rw [after0_6]; unfold outsAt0; frame_out
  simp only [pay8_eq, pay9_eq, pay10_eq]
  canon_tiles x h
  all_goals
    obtain ⟨r, e, rfl⟩ : ∃ r e, x = ix2 r e := ⟨_, _, eq_ix2 x⟩
    refine (chunk _ _ _ _ _ _ _ _ r e (by decide)).trans ?_
    have h1' : (y 1 : ℕ) = e.val := h1
  · have h0' : (y 0 : ℕ) = 768 + r.val := h0
    have hc0 : ((((View.whole main_v34).slice (win0_6.rect t)).emb y) 0 : ℕ) = t.val / 2 * 1024 + 768 + r.val := by blk_simp [idx t]; omega
    have hc1 : ((((View.whole main_v34).slice (win0_6.rect t)).emb y) 1 : ℕ) = t.val % 2 * 1536 + e.val := by blk_simp [idx t]; omega
    unfold res
    rw [hc0, hc1]
    refine conv_congr (scr_before m c t _ e _ ?_ ?_ ?_ ?_) (scr_here m c t _ e _ ?_ ?_ ?_ ?_) (scr_after m c t _ e _ ?_ ?_ ?_ ?_) ?_ ?_ ?_ ?_
    all_goals first | (dsimp only; omega) | skip
    all_goals blk_point [iblk, idx t]
  · have h0' : (y 0 : ℕ) = 512 + r.val := h0
    have hc0 : ((((View.whole main_v34).slice (win0_6.rect t)).emb y) 0 : ℕ) = t.val / 2 * 1024 + 512 + r.val := by blk_simp [idx t]; omega
    have hc1 : ((((View.whole main_v34).slice (win0_6.rect t)).emb y) 1 : ℕ) = t.val % 2 * 1536 + e.val := by blk_simp [idx t]; omega
    unfold res
    rw [hc0, hc1]
    refine conv_congr (scr_before m c t _ e _ ?_ ?_ ?_ ?_) (scr_here m c t _ e _ ?_ ?_ ?_ ?_) (scr_after m c t _ e _ ?_ ?_ ?_ ?_) ?_ ?_ ?_ ?_
    all_goals first | (dsimp only; omega) | skip
    all_goals blk_point [iblk, idx t]
  · have h0' : (y 0 : ℕ) = 256 + r.val := h0
    have hc0 : ((((View.whole main_v34).slice (win0_6.rect t)).emb y) 0 : ℕ) = t.val / 2 * 1024 + 256 + r.val := by blk_simp [idx t]; omega
    have hc1 : ((((View.whole main_v34).slice (win0_6.rect t)).emb y) 1 : ℕ) = t.val % 2 * 1536 + e.val := by blk_simp [idx t]; omega
    unfold res
    rw [hc0, hc1]
    refine conv_congr (scr_before m c t _ e _ ?_ ?_ ?_ ?_) (scr_here m c t _ e _ ?_ ?_ ?_ ?_) (scr_after m c t _ e _ ?_ ?_ ?_ ?_) ?_ ?_ ?_ ?_
    all_goals first | (dsimp only; omega) | skip
    all_goals blk_point [iblk, idx t]
  · have h0' : (y 0 : ℕ) = r.val := h0
    have hc0 : ((((View.whole main_v34).slice (win0_6.rect t)).emb y) 0 : ℕ) = t.val / 2 * 1024 + 0 + r.val := by blk_simp [idx t]; omega
    have hc1 : ((((View.whole main_v34).slice (win0_6.rect t)).emb y) 1 : ℕ) = t.val % 2 * 1536 + e.val := by blk_simp [idx t]; omega
    unfold res
    rw [hc0, hc1]
    refine conv_congr (scr_before m c t _ e _ ?_ ?_ ?_ ?_) (scr_here m c t _ e _ ?_ ?_ ?_ ?_) (scr_after m c t _ e _ ?_ ?_ ?_ ?_) ?_ ?_ ?_ ?_
    all_goals first | (dsimp only; omega) | skip
    all_goals blk_point [iblk, idx t]

/-- The weights' columns that the host line cuts out. -/
def cut (w : FVec Ideal S2048x6656 .f32) : FVec Ideal S2048x3072 .bf16 :=
  truncf .bf16 (extractStridedSlice S2048x3072 ![0, 2560] w slices_S2048x6656_S2048x3072_0_2560) bitsLt_bf16_f32

/-- The cut weights at an index. -/
theorem cut_apply (w : FVec Ideal S2048x6656 .f32) (k : Fin 2048) (d : Fin 3072) : cut w (ix2 k d) = w (ix2 k ⟨2560 + d, by omega⟩) := by
  pointwise [cut]

/-- The offsets as a row. -/
def bias (b : FVec Ideal S3072 .f32) : FVec Ideal S1x3072 .f32 := shapeCast _ b shapeCasts_S3072_S1x3072

/-- The row of offsets at an index. -/
theorem bias_apply (b : FVec Ideal S3072 .f32) (d : Fin 3072) : bias b (ix2 0 d) = b (ix1 d) := by
  pointwise [bias]

/-- The arrays that the kernel is given, from the program's arguments. -/
theorem given (c : Dev nD) : res (V m c main_arg0) (V m c main_v32) (V m c main_arg2) (V m c main_v33)
    = res (m ((c : Thread nD τ).loc main_arg0)) (cut (m ((c : Thread nD τ).loc main_arg1))) (m ((c : Thread nD τ).loc main_arg2))
      (bias (m ((c : Thread nD τ).loc main_arg3))) := by
  unfold V
  sl_kernel_rfl

end Cert.Kernel3Ideal.Value

namespace Cert.Reference3Ideal.Read
open Cert.Reference3Ideal Cert.Reference3Ideal.Gen Cert.ProjConv

set_option maxHeartbeats 4000000 in
/-- The reference's result at an index is the kernel's. -/
theorem result_apply (x : FVec Ideal S16384x2048 .bf16) (w : FVec Ideal S2048x6656 .f32) (cw : FVec Ideal S3x3072 .f32) (b : FVec Ideal S3072 .f32)
    (t : Fin 16384) (e : Fin 3072) :
    Cert.Kernel3Ideal.Value.res x (Cert.Kernel3Ideal.Value.cut w) cw (Cert.Kernel3Ideal.Value.bias b) (ix2 t e)
      = val_main_v29 (F := Ideal) x w cw b (ix2 t e) := by
  have hz : (FloatOps.sitofp (F := Ideal) FTy.f32 0#32 : EReal) = 0 := by
    show ((((0#32 : BitVec 32).toInt : ℝ)) : EReal) = 0
    simp
  have hrow (n : ℕ) (hn : n < 16384) : Cert.Kernel3Ideal.Value.row x (Cert.Kernel3Ideal.Value.cut w) n e.val
      = ∑ k : Fin 2048, x (ix2 ⟨n, hn⟩ k) * w (ix2 k ⟨2560 + e.val, by omega⟩) := by
    unfold Cert.Kernel3Ideal.Value.row
    rw [dif_pos ⟨hn, e.isLt⟩]
    exact Finset.sum_congr rfl fun k _ => congrArg _ (Cert.Kernel3Ideal.Value.cut_apply w k e)
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_call0_v0]
  rw [hz]
  unfold Cert.Kernel3Ideal.Value.res
  show conv (if t.val % 2048 = 0 then 0 else Cert.Kernel3Ideal.Value.row x (Cert.Kernel3Ideal.Value.cut w) (t.val - 1) e.val)
    (Cert.Kernel3Ideal.Value.row x (Cert.Kernel3Ideal.Value.cut w) t.val e.val)
    (if t.val % 2048 = 2047 then 0 else Cert.Kernel3Ideal.Value.row x (Cert.Kernel3Ideal.Value.cut w) (t.val + 1) e.val)
    (cw (ix2 0 e)) (cw (ix2 1 e)) (cw (ix2 2 e)) (Cert.Kernel3Ideal.Value.bias b (ix2 0 e)) = _
  rw [Cert.Kernel3Ideal.Value.bias_apply]
  refine Cert.Kernel3Ideal.Value.conv_congr ?_ ?_ ?_ rfl rfl rfl rfl
  · by_cases h : t.val % 2048 = 0
    · rw [if_pos h, dif_neg (by omega)]
    · rw [if_neg h, dif_pos (by omega), hrow _ (by omega)]
      refine Finset.sum_congr rfl fun k _ => congrArg (· * _) (congrArg x (congrArg (fun z => ix2 z k) (Fin.ext ?_)))
      dsimp only
      omega
  · rw [dif_pos (by omega), hrow _ t.isLt]
  · by_cases h : t.val % 2048 = 2047
    · rw [if_pos h, dif_neg (by omega)]
    · rw [if_neg h, dif_pos (by omega), hrow _ (by omega)]
      refine Finset.sum_congr rfl fun k _ => congrArg (· * _) (congrArg x (congrArg (fun z => ix2 z k) (Fin.ext ?_)))
      dsimp only
      omega

end Cert.Reference3Ideal.Read

namespace Cert.ProjConv
open Cert.Kernel3Ideal.Gen

/-- The array that the kernel leaves is the reference's result. -/
theorem final_eq (m : (ℓ : Loc Cert.Kernel3Ideal.nD Cert.Kernel3Ideal.τ Cert.Kernel3Ideal.sig) → Buf (Elt Ideal) ℓ) (c : Dev Cert.Kernel3Ideal.nD) :
    (dats m 0 c).arrAt 6 (Cert.Kernel3Ideal.cfgs 0).N = Cert.Reference3Ideal.Read.val_main_v29 (F := Ideal)
      (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3)) := by
  rw [Cert.Kernel3Ideal.Value.final, Cert.Kernel3Ideal.Value.given]
  funext i
  obtain ⟨t, e, rfl⟩ : ∃ t e, i = ix2 t e := ⟨_, _, eq_ix2 i⟩
  exact Cert.Reference3Ideal.Read.result_apply _ _ _ _ t e

end Cert.ProjConv
-- ==== Proof.Embed.lean ====
/- The layer norm of the embeddings: its two results, both sides read row by row as one function of the row's entries. -/
module
public import proofs.«01_k».proof.Proof.Gen.Kernel5Ideal.Value
public import proofs.«01_k».proof.Proof.Gen.Reference5Ideal.Read
public import proofs.«01_k».proof.Proof.OutProj
public import Idealize.ShloMosaic.Lib.Claim
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)

/-! # The norm of the embeddings, row by row -/

namespace Cert.Embed
open Cert.OutProj

/-- Rows that agree entry by entry have the same layer norm. -/
theorem lnorm_congr {t t' g g' b b' : Fin 2048 → EReal} {d d' : Fin 2048} (ht : ∀ d, t d = t' d) (hg : ∀ d, g d = g' d)
    (hb : ∀ d, b d = b' d) (hd : d = d') : lnorm t g b d = lnorm t' g' b' d' := by
  rw [funext ht, funext hg, funext hb, hd]

end Cert.Embed

namespace Cert.Kernel5Ideal.Value
open Cert.Kernel5Ideal Cert.Kernel5Ideal.Gen Cert.OutProj Cert.Embed
variable (m : (ℓ : Loc nD τ sig) → Buf (Elt Ideal) ℓ)

/-- The first result's block, at an index. -/
theorem wide_apply (x : Vec Ideal S512x2048 .f32) (g b : Vec Ideal S1x2048 .f32) (r : Fin 512) (d : Fin 2048) :
    k0_pay1 (F := Ideal) x g b (ix2 r d) = lnorm (fun d => x (ix2 r d)) (fun d => g (ix2 0 d)) (fun d => b (ix2 0 d)) d := by
  pointwise [k0_pay1]
  rfl

/-- The second result's block, at an index. -/
theorem narrow_apply (x : Vec Ideal S512x2048 .f32) (g b : Vec Ideal S1x2048 .f32) (r : Fin 512) (d : Fin 2048) :
    k0_pay2 (F := Ideal) x g b (ix2 r d) = lnorm (fun d => x (ix2 r d)) (fun d => g (ix2 0 d)) (fun d => b (ix2 0 d)) d := by
  pointwise [k0_pay2]
  exact wide_apply x g b r d

/-- The windows' block indices at every grid point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- Either result as a function of the arrays the kernel is given. -/
def res (x : FVec Ideal S16384x2048 .f32) (g b : FVec Ideal S1x2048 .f32) : S16384x2048.Idx → EReal := fun i =>
  lnorm (fun d => x (ix2 (i 0) d)) (fun d => g (ix2 0 d)) (fun d => b (ix2 0 d)) (i 1)

/-- The first result array after the run. -/
theorem final_wide (c : Dev nD) : (dats m 0 c).arrAt 3 (cfgs 0).N
    = res (V m c main_arg0) (V m c main_v0) (V m c main_v1) := by
  refine (dats m 0 c).arrAt_eq_of_covers 3 _ (by decide +kernel) fun t _ y => ?_
  blk_simp
  rw [after0_3]; frame_out
  obtain ⟨r, d, hx⟩ : ∃ r d, y = ix2 r d := ⟨_, _, eq_ix2 y⟩
  subst hx
  refine (wide_apply _ _ _ r d).trans ?_
  refine lnorm_congr (fun d => ?_) (fun d => ?_) (fun d => ?_) ?_
  case refine_4 => exact Fin.ext (by blk_simp [idx t])
  all_goals blk_point [iblk, idx t]

/-- The second result array after the run. -/
theorem final_narrow (c : Dev nD) : (dats m 0 c).arrAt 4 (cfgs 0).N
    = res (V m c main_arg0) (V m c main_v0) (V m c main_v1) := by
  refine (dats m 0 c).arrAt_eq_of_covers 4 _ (by decide +kernel) fun t _ y => ?_
  blk_simp
  rw [after0_4]; frame_out
  obtain ⟨r, d, hx⟩ : ∃ r d, y = ix2 r d := ⟨_, _, eq_ix2 y⟩
  subst hx
  refine (narrow_apply _ _ _ r d).trans ?_
  refine lnorm_congr (fun d => ?_) (fun d => ?_) (fun d => ?_) ?_
  case refine_4 => exact Fin.ext (by blk_simp [idx t])
  all_goals blk_point [iblk, idx t]

/-- The arrays that the region finds, from the arguments. -/
theorem V_all (c : Dev nD) :
    res (V m c main_arg0) (V m c main_v0) (V m c main_v1)
    = res (m ((c : Thread nD τ).loc main_arg0)) (shapeCast S1x2048 (m ((c : Thread nD τ).loc main_arg1)) shapeCasts_S2048_S1x2048)
        (shapeCast S1x2048 (m ((c : Thread nD τ).loc main_arg2)) shapeCasts_S2048_S1x2048) := by
  unfold V
  sl_kernel_rfl

end Cert.Kernel5Ideal.Value

namespace Cert.Embed
open Cert.Reference5Ideal Cert.Reference5Ideal.Gen Cert.Reference5Ideal.Read Cert.OutProj

/-- The first result of the reference, at an index. -/
theorem row_ref (x : FVec Ideal S16384x2048 .f32) (g b : FVec Ideal S2048 .f32) (t : Fin 16384) (d : Fin 2048) :
    val_main_v23 (F := Ideal) x g b (ix2 t d) = lnorm (fun d => x (ix2 t d)) (fun d => g (ix1 d)) (fun d => b (ix1 d)) d := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3]
  rfl

/-- The first array that the kernel leaves is the reference's first result. -/
theorem final_wide (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 3 (Cert.Kernel5Ideal.cfgs 0).N = val_main_v23 (F := Ideal)
      (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2)) := by
  rw [Cert.Kernel5Ideal.Value.final_wide, Cert.Kernel5Ideal.Value.V_all]
  funext i
  refine Eq.trans ?_ ((row_ref _ _ _ (i 0) (i 1)).symm.trans (congrArg (val_main_v23 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2))) (eq_ix2 i).symm))
  refine lnorm_congr (fun d => ?_) (fun d => ?_) (fun d => ?_) rfl
  all_goals pointwise

/-- The second array that the kernel leaves is the reference's second result. -/
theorem final_narrow (m : (ℓ : Loc Cert.Kernel5Ideal.nD Cert.Kernel5Ideal.τ Cert.Kernel5Ideal.sig) → Buf (Elt Ideal) ℓ) (c : Dev Cert.Kernel5Ideal.nD) :
    (Cert.Kernel5Ideal.Gen.dats m 0 c).arrAt 4 (Cert.Kernel5Ideal.cfgs 0).N = val_main_v24 (F := Ideal)
      (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2)) := by
  rw [Cert.Kernel5Ideal.Value.final_narrow, Cert.Kernel5Ideal.Value.V_all]
  funext i
  refine Eq.trans ?_ ((row_ref _ _ _ (i 0) (i 1)).symm.trans (congrArg (val_main_v23 (F := Ideal) (m ((c : Thread Cert.Kernel5Ideal.nD Cert.Kernel5Ideal.τ).loc Cert.Kernel5Ideal.main_arg0)) (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2))) (eq_ix2 i).symm))
  refine lnorm_congr (fun d => ?_) (fun d => ?_) (fun d => ?_) rfl
  all_goals pointwise

end Cert.Embed
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel2Ideal.Value
public import proofs.«01_k».proof.Proof.Gen.Kernel6.Frame
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite
public import proofs.«01_k».proof.Proof.FilterJoin
public import proofs.«01_k».proof.Proof.OutProj2
public import proofs.«01_k».proof.Proof.FilterRef
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.InProj
public import proofs.«01_k».proof.Proof.ProjConv
public import proofs.«01_k».proof.Proof.OutProj
public import proofs.«01_k».proof.Proof.Embed
public import Idealize.ShloMosaic.Adequacy
public import Idealize.ShloMosaic.Init

@[expose] public section

noncomputable section

namespace Cert.Proof

open Idealize.ShloMosaic Idealize.SL.Sem

/-- The reference of the window attention runs, keeps its arguments and leaves no semaphore signalled. -/
theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

/-- The reference of the input projection runs, keeps its arguments and leaves no semaphore signalled. -/
theorem frame_reference2 : Cert.quiescent_Reference2Ideal (hReference2Ideal := Cert.Reference2Ideal.Gen.facts) :=
  fun m ρ _ => (θ_run _ _ _).mono (fun r h => ⟨fun c => (h c).2, sem_eq_zero_of_no_sems (by decide) r.2⟩)
    (Cert.Reference2Ideal.Value.run (F := Ideal) m ρ)

/-- The kernel of the input projection leaves what its reference leaves. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats m 0 c).arrAt 2 (Cert.Kernel2Ideal.cfgs 0).N, Cert.Kernel2Ideal.Value.run_blocks m ρ, ?_⟩
  refine (θ_run _ _ _).mono (fun r h c => ⟨(h c).1.trans ?_, (h c).2⟩) (Cert.Reference2Ideal.Value.run (F := Ideal) m' ρ')
  obtain ⟨h0, h1⟩ := hagree c
  refine Eq.trans ?_ (Cert.InProj.final_eq m c).symm
  rw [← h0, ← h1]
  exact Cert.Reference2Ideal.Read.val_main_v24_eq m' c

/-- The reference of the input projection with the short convolution runs, keeps its arguments and leaves no semaphore signalled. -/
theorem frame_reference3 : Cert.quiescent_Reference3Ideal (hReference3Ideal := Cert.Reference3Ideal.Gen.facts) :=
  fun m ρ _ => (θ_run _ _ _).mono (fun r h => ⟨fun c => (h c).2, sem_eq_zero_of_no_sems (by decide) r.2⟩)
    (Cert.Reference3Ideal.Value.run (F := Ideal) m ρ)

/-- The kernel of the input projection with the short convolution leaves what its reference leaves. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => (Cert.Kernel3Ideal.Gen.dats m 0 c).arrAt 6 (Cert.Kernel3Ideal.cfgs 0).N, Cert.Kernel3Ideal.Value.run_blocks m ρ, ?_⟩
  refine (θ_run _ _ _).mono (fun r h c => ⟨(h c).1.trans ?_, (h c).2⟩) (Cert.Reference3Ideal.Value.run (F := Ideal) m' ρ')
  obtain ⟨h0, h1, h2, h3⟩ := hagree c
  refine Eq.trans ?_ (Cert.ProjConv.final_eq m c).symm
  rw [← h0, ← h1, ← h2, ← h3]
  exact Cert.Reference3Ideal.Read.val_main_v29_eq _ _ _ _

/-- The reference of the output projection runs, keeps its arguments and leaves no semaphore signalled. -/
theorem frame_reference4 : Cert.quiescent_Reference4Ideal (hReference4Ideal := Cert.Reference4Ideal.Gen.facts) :=
  fun m ρ _ => (θ_run _ _ _).mono (fun r h => ⟨fun c => (h c).2, sem_eq_zero_of_no_sems (by decide) r.2⟩)
    (Cert.Reference4Ideal.Value.run (F := Ideal) m ρ)

/-- The kernel of the output projection leaves what its reference leaves. -/
theorem algebraic4 : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => (Cert.Kernel4Ideal.Gen.dats m 0 c).arrAt 8 (Cert.Kernel4Ideal.cfgs 0).N, Cert.Kernel4Ideal.Value.run_blocks m ρ, ?_⟩
  refine (θ_run _ _ _).mono (fun r h c => ⟨(h c).1.trans ?_, (h c).2⟩) (Cert.Reference4Ideal.Value.run (F := Ideal) m' ρ')
  obtain ⟨h0, h1, h2, h3, h4, h5, h6, h7⟩ := hagree c
  refine Eq.trans ?_ (Cert.OutProj.final_eq m c).symm
  rw [← h0, ← h1, ← h2, ← h3, ← h4, ← h5, ← h6, ← h7]
  exact Cert.Reference4Ideal.Read.val_main_v47_eq m' c

/-- The reference of the embeddings' norm runs, keeps its arguments and leaves no semaphore signalled. -/
theorem frame_reference5 : Cert.quiescent_Reference5Ideal (hReference5Ideal := Cert.Reference5Ideal.Gen.facts) :=
  fun m ρ _ => (θ_run _ _ _).mono (fun r h => ⟨fun c => (h c).2.2, sem_eq_zero_of_no_sems (by decide) r.2⟩)
    (Cert.Reference5Ideal.Value.run (F := Ideal) m ρ)

/-- The kernel of the embeddings' norm leaves what its reference leaves, in both results. -/
theorem algebraic5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => (Cert.Kernel5Ideal.Gen.dats m 0 c).arrAt 3 (Cert.Kernel5Ideal.cfgs 0).N,
    fun c => (Cert.Kernel5Ideal.Gen.dats m 0 c).arrAt 4 (Cert.Kernel5Ideal.cfgs 0).N, Cert.Kernel5Ideal.Value.run_blocks m ρ, ?_⟩
  refine (θ_run _ _ _).mono (fun r h c => ⟨(h c).1.trans ?_, (h c).2.1.trans ?_, (h c).2.2⟩)
    (Cert.Reference5Ideal.Value.run (F := Ideal) m' ρ')
  · obtain ⟨h0, h1, h2⟩ := hagree c
    refine Eq.trans ?_ (Cert.Embed.final_wide m c).symm
    rw [← h0, ← h1, ← h2]
    exact Cert.Reference5Ideal.Read.val_main_v23_eq _ _ _
  · obtain ⟨h0, h1, h2⟩ := hagree c
    refine Eq.trans ?_ (Cert.Embed.final_narrow m c).symm
    rw [← h0, ← h1, ← h2]
    exact Cert.Reference5Ideal.Read.val_main_v24_eq _ _ _

/-- The reference of the filter network runs, keeps its arguments and leaves no semaphore signalled. -/
theorem frame_reference6 : Cert.quiescent_Reference6Ideal (hReference6Ideal := Cert.Reference6Ideal.Gen.facts) :=
  fun m ρ _ => (θ_run _ _ _).mono (fun r h => ⟨fun c => (h c).2.2.2, sem_eq_zero_of_no_sems (by decide) r.2⟩)
    (Cert.Reference6Ideal.Value.run (F := Ideal) m ρ)

/-- The kernel of the filter network leaves what its reference leaves, in all three results, when the last layer's weights are numbers. -/
theorem algebraic6 : Cert.algebraic_Kernel6Ideal_Reference6Ideal_pre_finite (hKernel6Ideal := Cert.Kernel6Ideal.Gen.facts)
    (hReference6Ideal := Cert.Reference6Ideal.Gen.facts) (hPre_finite := Cert.Pre_finite.Gen.facts) := by
  intro m ρ m' ρ' hpre hagree
  refine ⟨fun c => (Cert.Kernel6Ideal.Gen.dats m 0 c).arrAt 13 (Cert.Kernel6Ideal.cfgs 0).N,
    fun c => (Cert.Kernel6Ideal.Gen.dats m 0 c).arrAt 14 (Cert.Kernel6Ideal.cfgs 0).N,
    fun c => (Cert.Kernel6Ideal.Gen.dats m 0 c).arrAt 15 (Cert.Kernel6Ideal.cfgs 0).N, Cert.Kernel6Ideal.Value.run_blocks m ρ, ?_⟩
  refine (θ_run _ _ _).mono (fun r h c => ⟨(h c).1.trans ?_, (h c).2.1.trans ?_, (h c).2.2.1.trans ?_, (h c).2.2.2⟩)
    (Cert.Reference6Ideal.Value.run (F := Ideal) m' ρ')
  · obtain ⟨h0, h1, h2, h3, h4, h5, h6, h7⟩ := hagree c
    refine Eq.trans ?_ (Cert.Kernel6Ideal.Value.result0 m hpre c).symm
    rw [← h0, ← h1, ← h2, ← h3, ← h4, ← h5, ← h6, ← h7]
    exact Cert.Reference6Ideal.Read.val_main_v57_eq _ _
  · obtain ⟨h0, h1, h2, h3, h4, h5, h6, h7⟩ := hagree c
    refine Eq.trans ?_ (Cert.Kernel6Ideal.Value.result1 m hpre c).symm
    rw [← h0, ← h1, ← h2, ← h3, ← h4, ← h5, ← h6, ← h7]
    exact Cert.Reference6Ideal.Read.val_main_v58_eq _ _
  · obtain ⟨h0, h1, h2, h3, h4, h5, h6, h7⟩ := hagree c
    refine Eq.trans ?_ (Cert.Kernel6Ideal.Value.result2 m hpre c).symm
    rw [← h0, ← h1, ← h2, ← h3, ← h4, ← h5, ← h6, ← h7]
    exact Cert.Reference6Ideal.Read.val_main_v48_eq _ _

/-- The reference of the output projection with both results runs, keeps its arguments and leaves no semaphore signalled. -/
theorem frame_reference7 : Cert.quiescent_Reference7Ideal (hReference7Ideal := Cert.Reference7Ideal.Gen.facts) :=
  fun m ρ _ => (θ_run _ _ _).mono (fun r h => ⟨fun c => (h c).2.2, sem_eq_zero_of_no_sems (by decide) r.2⟩)
    (Cert.Reference7Ideal.Value.run (F := Ideal) m ρ)

/-- The kernel of the output projection with both results leaves what its reference leaves. -/
theorem algebraic7 : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => (Cert.Kernel7Ideal.Gen.dats m 0 c).arrAt 8 (Cert.Kernel7Ideal.cfgs 0).N,
    fun c => (Cert.Kernel7Ideal.Gen.dats m 0 c).arrAt 9 (Cert.Kernel7Ideal.cfgs 0).N, Cert.Kernel7Ideal.Value.run_blocks m ρ, ?_⟩
  refine (θ_run _ _ _).mono (fun r h c => ⟨(h c).1.trans ?_, (h c).2.1.trans ?_, (h c).2.2⟩)
    (Cert.Reference7Ideal.Value.run (F := Ideal) m' ρ')
  · obtain ⟨h0, h1, h2, h3, h4, h5, h6, h7⟩ := hagree c
    refine Eq.trans ?_ (Cert.OutProj2.final_eq8 m c).symm
    rw [← h0, ← h1, ← h2, ← h3, ← h4, ← h5, ← h6, ← h7]
    exact Cert.Reference7Ideal.Read.val_main_v47_eq m' c
  · obtain ⟨h0, h1, h2, h3, h4, h5, h6, h7⟩ := hagree c
    refine Eq.trans ?_ (Cert.OutProj2.final_eq9 m c).symm
    rw [← h0, ← h1, ← h2, ← h3, ← h4, ← h5, ← h6, ← h7]
    exact Cert.Reference7Ideal.Read.val_main_v48_eq m' c

/-- The proof of everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts,
    fun m ρ _ => Cert.Kernel.Gen.frame m ρ,
    fun m ρ _ => Cert.KernelIdeal.Gen.frame m ρ,
    frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, fun m ρ _ => Cert.Kernel6Ideal.Gen.frame m ρ,
    frame_reference6, fun m ρ _ => frame_reference6 m ρ trivial,
    fun m ρ _ => Cert.Kernel7.Gen.frame m ρ, fun m ρ _ => Cert.Kernel7Ideal.Gen.frame m ρ, frame_reference7,
    ⟨IdealRules.named_const.statement Cert.KernelIdeal.κ "scale" .f32 0x3E38AA3B#32 _ rfl,
      IdealRules.named_const.statement Cert.KernelIdeal.κ "log2e" .f32 0x3FB8AA3B#32 _ rfl⟩,
    trivial, algebraic2, trivial, algebraic3, trivial, algebraic4, trivial, algebraic5, trivial, algebraic6, trivial, algebraic7⟩

end Cert.Proof

end
